-- ==== Defs.lean ====
def Pre_Kernel [hPre_swapped_Kernel : Cert.Pre_swapped_Kernel.Facts] (m : (ℓ : Loc Cert.Kernel.nD Cert.Kernel.τ Cert.Kernel.sig) → Buf (Elt Bits) ℓ) : Prop :=
  ∀ c : Dev Cert.Kernel.nD,
    (Cert.Pre_swapped_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_kept_Kernel [hPre_kept_Kernel : Cert.Pre_kept_Kernel.Facts] (m : (ℓ : Loc Cert.Kernel.nD Cert.Kernel.τ Cert.Kernel.sig) → Buf (Elt Bits) ℓ) : Prop :=
  ∀ c : Dev Cert.Kernel.nD,
    (Cert.Pre_kept_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapped_Kernel : Cert.Pre_swapped_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapped_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_kept_Kernel [hPre_kept_Kernel : Cert.Pre_kept_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_kept_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapped_ReferenceIdeal [hPre_swapped_ReferenceIdeal : Cert.Pre_swapped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_kept_ReferenceIdeal [hPre_kept_ReferenceIdeal : Cert.Pre_kept_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_kept_Kernel [hKernel : Cert.Kernel.Facts] [hPre_kept_Kernel : Cert.Pre_kept_Kernel.Facts] : Prop :=
  ∀ (m : (ℓ : Loc Cert.Kernel.nD Cert.Kernel.τ Cert.Kernel.sig) → Buf (Elt Bits) ℓ) (g : Dev Cert.Kernel.nD → PrngReg), Pre_Kernel_kept_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_kept_Kernel [hKernelIdeal : Cert.KernelIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapped_ReferenceIdeal [hReferenceIdeal : Cert.ReferenceIdeal.Facts] [hPre_swapped_ReferenceIdeal : Cert.Pre_swapped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_kept_ReferenceIdeal [hReferenceIdeal : Cert.ReferenceIdeal.Facts] [hPre_kept_ReferenceIdeal : Cert.Pre_kept_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_kept_Kernel [hKernelIdeal : Cert.KernelIdeal.Facts] [hReferenceIdeal : Cert.ReferenceIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapped_Kernel : Cert.Pre_swapped_Kernel.Facts) (hPre_kept_Kernel : Cert.Pre_kept_Kernel.Facts) (hPre_swapped_ReferenceIdeal : Cert.Pre_swapped_ReferenceIdeal.Facts) (hPre_kept_ReferenceIdeal : Cert.Pre_kept_ReferenceIdeal.Facts),
    quiescent_Kernel (hKernel := hKernel) (hPre_swapped_Kernel := hPre_swapped_Kernel)
    ∧ quiescent_Kernel_pre_kept_Kernel (hKernel := hKernel) (hPre_kept_Kernel := hPre_kept_Kernel)
    ∧ quiescent_KernelIdeal (hKernelIdeal := hKernelIdeal) (hPre_swapped_Kernel := hPre_swapped_Kernel)
    ∧ quiescent_KernelIdeal_pre_kept_Kernel (hKernelIdeal := hKernelIdeal) (hPre_kept_Kernel := hPre_kept_Kernel)
    ∧ quiescent_ReferenceIdeal (hReferenceIdeal := hReferenceIdeal)
    ∧ quiescent_ReferenceIdeal_pre_swapped_ReferenceIdeal (hReferenceIdeal := hReferenceIdeal) (hPre_swapped_ReferenceIdeal := hPre_swapped_ReferenceIdeal)
    ∧ quiescent_ReferenceIdeal_pre_kept_ReferenceIdeal (hReferenceIdeal := hReferenceIdeal) (hPre_kept_ReferenceIdeal := hPre_kept_ReferenceIdeal)
    ∧ preserves_Kernel_KernelIdeal
    ∧ algebraic_KernelIdeal_ReferenceIdeal (hKernelIdeal := hKernelIdeal) (hReferenceIdeal := hReferenceIdeal) (hPre_swapped_Kernel := hPre_swapped_Kernel)
    ∧ algebraic_KernelIdeal_ReferenceIdeal_pre_kept_Kernel (hKernelIdeal := hKernelIdeal) (hReferenceIdeal := hReferenceIdeal) (hPre_kept_Kernel := hPre_kept_Kernel)
-- ==== Pre_kept_Kernel.lean ====
abbrev S1x1024x1024 : Shape := ⟨3, ![1, 1024, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x1024x1024 .f32) (main_arg1 : IVec S2 32) : IVec S2 1 :=
  let main_c : IVec S2 32 := fun i => lit0 (S2.rowMajor i)
  let main_v0 : IVec S2 1 := cmpi .eq main_arg1 main_c
  main_v0
-- ==== Pre_kept_ReferenceIdeal.lean ====
abbrev S2x1024x1024 : Shape := ⟨3, ![2, 1024, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x1024x1024 .f32) (main_arg1 : IVec S2 32) : IVec S2 1 :=
  let main_c : IVec S2 32 := fun i => lit0 (S2.rowMajor i)
  let main_v0 : IVec S2 1 := cmpi .eq main_arg1 main_c
  main_v0
-- ==== Pre_swapped_Kernel.lean ====
abbrev S1x1024x1024 : Shape := ⟨3, ![1, 1024, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x1024x1024 .f32) (main_arg1 : IVec S2 32) : IVec S2 1 :=
  let main_c : IVec S2 32 := fun i => lit0 (S2.rowMajor i)
  let main_v0 : IVec S2 1 := cmpi .eq main_arg1 main_c
  main_v0
-- ==== Pre_swapped_ReferenceIdeal.lean ====
abbrev S2x1024x1024 : Shape := ⟨3, ![2, 1024, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x1024x1024 .f32) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x1024x1024 : Shape := ⟨3, ![1, 1024, 1024]⟩
abbrev S2 : Shape := ⟨1, ![2]⟩
abbrev S2x128x1024 : Shape := ⟨3, ![2, 128, 1024]⟩
abbrev S8x128x1024 : Shape := ⟨3, ![8, 128, 1024]⟩
abbrev S8x128 : Shape := ⟨2, ![8, 128]⟩
abbrev S8 : Shape := ⟨1, ![8]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩
abbrev S1x1x1 : Shape := ⟨3, ![1, 1, 1]⟩
abbrev S128 : Shape := ⟨1, ![128]⟩
abbrev S1x128 : Shape := ⟨2, ![1, 128]⟩
abbrev S1x1 : Shape := ⟨2, ![1, 1]⟩

abbrev nBuf : Space → Nat
  | .hbm => 3
  | .vmem => 6
  | .smem => 1
  | _ => 0

abbrev bufTy : (tb : Table) → Fin (tcTables nBuf tb) → BufTy
  | .hbm, ⟨0, _⟩ => ⟨S1x1024x1024, .f32⟩
  | .hbm, ⟨1, _⟩ => ⟨S2, .i32⟩
  | .hbm, ⟨2, _⟩ => ⟨S1x1024x1024, .f32⟩
  | .local _ .vmem, ⟨0, _⟩ => ⟨S2x128x1024, .f32⟩
  | .local _ .vmem, ⟨1, _⟩ => ⟨S2x128x1024, .f32⟩
  | .local _ .vmem, ⟨2, _⟩ => ⟨S8x128x1024, .i8⟩
  | .local _ .vmem, ⟨3, _⟩ => ⟨S8x128x1024, .i8⟩
  | .local _ .vmem, ⟨4, _⟩ => ⟨S8x128, .f32⟩
  | .local _ .vmem, ⟨5, _⟩ => ⟨S8x128, .f32⟩
  | .local _ .smem, ⟨0, _⟩ => ⟨S2, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : Index := Scalar.indexCast v2
  ![v17.toNat]
def k0_dev2 (d0 : Dev nD) : Nat :=
  let c0_i32_42 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_41 : BitVec 32 := 8#32
  let v56 : BitVec 32 := Scalar.muli v9 c8_i32_41
  let v57 : BitVec 32 := Scalar.addi c0_i32_42 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v58 : BitVec 32 := Scalar.muli v5 c4_i32_43
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v60 : BitVec 32 := Scalar.muli v8 c1_i32_44
  let v61 : BitVec 32 := Scalar.addi v59 v60
  v61.toNat
def k0_dev3 (d0 : Dev nD) : Nat :=
  let c0_i32_58 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_57 : BitVec 32 := 8#32
  let v82 : BitVec 32 := Scalar.muli v9 c8_i32_57
  let v83 : BitVec 32 := Scalar.addi c0_i32_58 v82
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v84 : BitVec 32 := Scalar.muli v5 c4_i32_59
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v86 : BitVec 32 := Scalar.muli v8 c1_i32_60
  let v87 : BitVec 32 := Scalar.addi v85 v86
  v87.toNat
def k0_dev4 (d0 : Dev nD) : Nat :=
  let c0_i32_90 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_89 : BitVec 32 := 8#32
  let v121 : BitVec 32 := Scalar.muli v9 c8_i32_89
  let v122 : BitVec 32 := Scalar.addi c0_i32_90 v121
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v123 : BitVec 32 := Scalar.muli v5 c4_i32_91
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v125 : BitVec 32 := Scalar.muli v8 c1_i32_92
  let v126 : BitVec 32 := Scalar.addi v124 v125
  v126.toNat
def k0_dev5 (d0 : Dev nD) : Nat :=
  let c0_i32_106 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_105 : BitVec 32 := 8#32
  let v147 : BitVec 32 := Scalar.muli v9 c8_i32_105
  let v148 : BitVec 32 := Scalar.addi c0_i32_106 v147
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_107 : BitVec 32 := 4#32
  let v149 : BitVec 32 := Scalar.muli v5 c4_i32_107
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v151 : BitVec 32 := Scalar.muli v8 c1_i32_108
  let v152 : BitVec 32 := Scalar.addi v150 v151
  v152.toNat
def k0_dev6 (d0 : Dev nD) : Nat :=
  let c0_i32_138 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_137 : BitVec 32 := 8#32
  let v186 : BitVec 32 := Scalar.muli v9 c8_i32_137
  let v187 : BitVec 32 := Scalar.addi c0_i32_138 v186
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_139 : BitVec 32 := 4#32
  let v188 : BitVec 32 := Scalar.muli v5 c4_i32_139
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v190 : BitVec 32 := Scalar.muli v8 c1_i32_140
  let v191 : BitVec 32 := Scalar.addi v189 v190
  v191.toNat
def k0_dev7 (d0 : Dev nD) : Nat :=
  let c0_i32_154 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_153 : BitVec 32 := 8#32
  let v212 : BitVec 32 := Scalar.muli v9 c8_i32_153
  let v213 : BitVec 32 := Scalar.addi c0_i32_154 v212
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_155 : BitVec 32 := 4#32
  let v214 : BitVec 32 := Scalar.muli v5 c4_i32_155
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v216 : BitVec 32 := Scalar.muli v8 c1_i32_156
  let v217 : BitVec 32 := Scalar.addi v215 v216
  v217.toNat
def k0_dev8 (d0 : Dev nD) : Nat :=
  let c0_i32_185 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_184 : BitVec 32 := 8#32
  let v251 : BitVec 32 := Scalar.muli v9 c8_i32_184
  let v252 : BitVec 32 := Scalar.addi c0_i32_185 v251
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_186 : BitVec 32 := 4#32
  let v253 : BitVec 32 := Scalar.muli v5 c4_i32_186
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v255 : BitVec 32 := Scalar.muli v8 c1_i32_187
  let v256 : BitVec 32 := Scalar.addi v254 v255
  v256.toNat
def k0_dev9 (d0 : Dev nD) : Nat :=
  let c0_i32_201 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_200 : BitVec 32 := 8#32
  let v277 : BitVec 32 := Scalar.muli v9 c8_i32_200
  let v278 : BitVec 32 := Scalar.addi c0_i32_201 v277
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v279 : BitVec 32 := Scalar.muli v5 c4_i32_202
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v281 : BitVec 32 := Scalar.muli v8 c1_i32_203
  let v282 : BitVec 32 := Scalar.addi v280 v281
  v282.toNat
def k0_dev10 (d0 : Dev nD) : Nat :=
  let c0_i32_233 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_232 : BitVec 32 := 8#32
  let v316 : BitVec 32 := Scalar.muli v9 c8_i32_232
  let v317 : BitVec 32 := Scalar.addi c0_i32_233 v316
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_234 : BitVec 32 := 4#32
  let v318 : BitVec 32 := Scalar.muli v5 c4_i32_234
  let v319 : BitVec 32 := Scalar.addi v317 v318
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v320 : BitVec 32 := Scalar.muli v8 c1_i32_235
  let v321 : BitVec 32 := Scalar.addi v319 v320
  v321.toNat
def k0_dev11 (d0 : Dev nD) : Nat :=
  let c0_i32_249 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_248 : BitVec 32 := 8#32
  let v342 : BitVec 32 := Scalar.muli v9 c8_i32_248
  let v343 : BitVec 32 := Scalar.addi c0_i32_249 v342
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v344 : BitVec 32 := Scalar.muli v5 c4_i32_250
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v346 : BitVec 32 := Scalar.muli v8 c1_i32_251
  let v347 : BitVec 32 := Scalar.addi v345 v346
  v347.toNat
def k0_dev12 (d0 : Dev nD) : Nat :=
  let c0_i32_280 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_279 : BitVec 32 := 8#32
  let v381 : BitVec 32 := Scalar.muli v9 c8_i32_279
  let v382 : BitVec 32 := Scalar.addi c0_i32_280 v381
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_281 : BitVec 32 := 4#32
  let v383 : BitVec 32 := Scalar.muli v5 c4_i32_281
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v385 : BitVec 32 := Scalar.muli v8 c1_i32_282
  let v386 : BitVec 32 := Scalar.addi v384 v385
  v386.toNat
def k0_dev13 (d0 : Dev nD) : Nat :=
  let c0_i32_296 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_295 : BitVec 32 := 8#32
  let v407 : BitVec 32 := Scalar.muli v9 c8_i32_295
  let v408 : BitVec 32 := Scalar.addi c0_i32_296 v407
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_297 : BitVec 32 := 4#32
  let v409 : BitVec 32 := Scalar.muli v5 c4_i32_297
  let v410 : BitVec 32 := Scalar.addi v408 v409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_298 : BitVec 32 := 1#32
  let v411 : BitVec 32 := Scalar.muli v8 c1_i32_298
  let v412 : BitVec 32 := Scalar.addi v410 v411
  v412.toNat
def k0_dev14 (d0 : Dev nD) : Nat :=
  let c0_i32_327 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_326 : BitVec 32 := 8#32
  let v446 : BitVec 32 := Scalar.muli v9 c8_i32_326
  let v447 : BitVec 32 := Scalar.addi c0_i32_327 v446
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_328 : BitVec 32 := 4#32
  let v448 : BitVec 32 := Scalar.muli v5 c4_i32_328
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_329 : BitVec 32 := 1#32
  let v450 : BitVec 32 := Scalar.muli v8 c1_i32_329
  let v451 : BitVec 32 := Scalar.addi v449 v450
  v451.toNat
def k0_dev15 (d0 : Dev nD) : Nat :=
  let c0_i32_343 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_342 : BitVec 32 := 8#32
  let v472 : BitVec 32 := Scalar.muli v9 c8_i32_342
  let v473 : BitVec 32 := Scalar.addi c0_i32_343 v472
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_344 : BitVec 32 := 4#32
  let v474 : BitVec 32 := Scalar.muli v5 c4_i32_344
  let v475 : BitVec 32 := Scalar.addi v473 v474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v476 : BitVec 32 := Scalar.muli v8 c1_i32_345
  let v477 : BitVec 32 := Scalar.addi v475 v476
  v477.toNat
def k0_dev16 (d0 : Dev nD) : Nat :=
  let c0_i32_368 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_367 : BitVec 32 := 8#32
  let v505 : BitVec 32 := Scalar.muli v9 c8_i32_367
  let v506 : BitVec 32 := Scalar.addi c0_i32_368 v505
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_369 : BitVec 32 := 4#32
  let v507 : BitVec 32 := Scalar.muli v5 c4_i32_369
  let v508 : BitVec 32 := Scalar.addi v506 v507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_370 : BitVec 32 := 1#32
  let v509 : BitVec 32 := Scalar.muli v8 c1_i32_370
  let v510 : BitVec 32 := Scalar.addi v508 v509
  v510.toNat
def k0_dev17 (d0 : Dev nD) : Nat :=
  let c0_i32_384 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_383 : BitVec 32 := 8#32
  let v531 : BitVec 32 := Scalar.muli v9 c8_i32_383
  let v532 : BitVec 32 := Scalar.addi c0_i32_384 v531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v533 : BitVec 32 := Scalar.muli v5 c4_i32_385
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v535 : BitVec 32 := Scalar.muli v8 c1_i32_386
  let v536 : BitVec 32 := Scalar.addi v534 v535
  v536.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩
abbrev S2x8x128x1024 : Shape := ⟨4, ![2, 8, 128, 1024]⟩
abbrev S2x8 : Shape := ⟨2, ![2, 8]⟩
abbrev S2x8x1x1 : Shape := ⟨4, ![2, 8, 1, 1]⟩
abbrev S2x1x1 : Shape := ⟨3, ![2, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .f32⟩
  | .hbm, ⟨14, _⟩ => ⟨S2x8x128x1024, .f32⟩
  | .hbm, ⟨15, _⟩ => ⟨S2x8x128x1024, .f32⟩
  | .hbm, ⟨16, _⟩ => ⟨S_, .f32⟩
  | .hbm, ⟨17, _⟩ => ⟨S2x8, .f32⟩
  | .hbm, ⟨18, _⟩ => ⟨S2x8x1x1, .f32⟩
  | .hbm, ⟨19, _⟩ => ⟨S_, .f32⟩
  | .hbm, ⟨20, _⟩ => ⟨S2x8x1x1, .f32⟩
  | .hbm, ⟨21, _⟩ => ⟨S2x8x1x1, .f32⟩
  | .hbm, ⟨22, _⟩ => ⟨S_, .f32⟩
  | .hbm, ⟨23, _⟩ => ⟨S2x8x1x1, .f32⟩
  | .hbm, ⟨24, _⟩ => ⟨S2x8x1x1, .f32⟩
  | .hbm, ⟨25, _⟩ => ⟨S2x8x128x1024, .f32⟩
  | .hbm, ⟨26, _⟩ => ⟨S2x8x128x1024, .f32⟩
  | .hbm, ⟨27, _⟩ => ⟨S2x8x128x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x8x128x1024, .f32⟩
  | .hbm, ⟨32, _⟩ => ⟨S2x8x128x1024, .f32⟩
  | .hbm, ⟨33, _⟩ => ⟨S_, .f32⟩
  | .hbm, ⟨34, _⟩ => ⟨S2x8x128x1024, .f32⟩
  | .hbm, ⟨35, _⟩ => ⟨S2x8x128x1024, .f32⟩
  | .hbm, ⟨36, _⟩ => ⟨S2x8x128x1024, .f32⟩
  | .hbm, ⟨37, _⟩ => ⟨S2x8x128x1024, .f32⟩
  | .hbm, ⟨38, _⟩ => ⟨S2x1024x1024, .f32⟩
  | .hbm, ⟨39, _⟩ => ⟨S2, .i32⟩
  | .hbm, ⟨40, _⟩ => ⟨S2, .i1⟩
  | .hbm, ⟨41, _⟩ => ⟨S2x1x1, .i1⟩
  | .hbm, ⟨42, _⟩ => ⟨S2x1024x1024, .i1⟩
  | .hbm, ⟨43, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call3_v0 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Proof.Regions.lean ====
/-
  The pieces of memory the kernel moves: the eight row blocks of the input and of the result, the two slots of
  each staging buffer, the eight slots of the code buffers and the eight rows of the scale buffers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Whole buffers -/

abbrev xM : Memref sig .tc .hbm S1x1024x1024 .f32 := Memref.whole main_arg0
abbrev oM : Memref sig .tc .hbm S1x1024x1024 .f32 := Memref.whole main_v1
abbrev piM : Memref sig .tc .smem S2 .i32 := Memref.whole cc0_stg0_0
abbrev xsM : Memref sig .tc .vmem S2x128x1024 .f32 := Memref.whole cc0_scratch0
abbrev osM : Memref sig .tc .vmem S2x128x1024 .f32 := Memref.whole cc0_scratch1
abbrev csM : Memref sig .tc .vmem S8x128x1024 .i8 := Memref.whole cc0_scratch2
abbrev crM : Memref sig .tc .vmem S8x128x1024 .i8 := Memref.whole cc0_scratch3
abbrev ssM : Memref sig .tc .vmem S8x128 .f32 := Memref.whole cc0_scratch4
abbrev srM : Memref sig .tc .vmem S8x128 .f32 := Memref.whole cc0_scratch5

/-! ## Row blocks, slots and rows -/

theorem inb_blk (k : Fin 8) : ∀ a, (![0, 128 * k.val, 0] : Fin 3 → Nat) a + S1x128x1024.size a ≤ S1x1024x1024.size a := by
  revert k; decide
theorem inb_slot2 (k : Fin 2) : ∀ a, (![k.val, 0, 0] : Fin 3 → Nat) a + S1x128x1024.size a ≤ S2x128x1024.size a := by
  revert k; decide
theorem inb_slot8 (k : Fin 8) : ∀ a, (![k.val, 0, 0] : Fin 3 → Nat) a + S1x128x1024.size a ≤ S8x128x1024.size a := by
  revert k; decide
theorem inb_row8 (k : Fin 8) : ∀ a, (![k.val, 0] : Fin 2 → Nat) a + S1x128.size a ≤ S8x128.size a := by
  revert k; decide

/-- Rows 128k … 128k+127 of an array of one 1024×1024 matrix. -/
abbrev blkR (k : Fin 8) : Rect S1x1024x1024 := Rect.unit ![0, 128 * k.val, 0] S1x128x1024.size (inb_blk k)
abbrev slot2R (k : Fin 2) : Rect S2x128x1024 := Rect.unit ![k.val, 0, 0] S1x128x1024.size (inb_slot2 k)
abbrev slot8R (k : Fin 8) : Rect S8x128x1024 := Rect.unit ![k.val, 0, 0] S1x128x1024.size (inb_slot8 k)
abbrev row8R (k : Fin 8) : Rect S8x128 := Rect.unit ![k.val, 0] S1x128.size (inb_row8 k)

abbrev blk (M : Memref sig .tc .hbm S1x1024x1024 .f32) (k : Fin 8) : Memref sig .tc .hbm S128x1024 .f32 :=
  (M.slice (blkR k) (fun _ => rfl)).squeeze S128x1024 squeezes_S1x128x1024_S128x1024
abbrev slot2 (M : Memref sig .tc .vmem S2x128x1024 .f32) (k : Fin 2) : Memref sig .tc .vmem S128x1024 .f32 :=
  (M.slice (slot2R k) (fun _ => rfl)).squeeze S128x1024 squeezes_S1x128x1024_S128x1024
abbrev slot8 (M : Memref sig .tc .vmem S8x128x1024 .i8) (k : Fin 8) : Memref sig .tc .vmem S128x1024 .i8 :=
  (M.slice (slot8R k) (fun _ => rfl)).squeeze S128x1024 squeezes_S1x128x1024_S128x1024
abbrev row8 (M : Memref sig .tc .vmem S8x128 .f32) (k : Fin 8) : Memref sig .tc .vmem S128 .f32 :=
  (M.slice (row8R k) (fun _ => rfl)).squeeze S128 squeezes_S1x128_S128

end Cert.Swap

end
-- ==== Proof.Protocol.lean ====
/-
  The exchange between a device and its partner along the first mesh axis, as a schedule of duties: the handshake
  cell, and for every chunk a send and a receive cell for the codes and for the scales.
-/
module

public import proofs.«01_k».proof.Proof.Regions
public import Idealize.ShloMosaic.Lib.Ring

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

omit [FloatOps F] in
instance er_landsIn : (ER (F := F)).LandsIn (upEmb : UEmb _ 𝕄) := by unfold ER; infer_instance

/-! ## The partner -/

theorem partner_lt (c : Dev nD) : (4 * ((c.val / 4) % 2) + (c.val % 4) + 8) - 8 * (c.val / 8) < nD := by
  rw [← k0_dev1_eq c]; exact k0_dev1_lt c

/-- The device at the other coordinate of the first mesh axis and the same coordinates of the other two. -/
def partner (c : Dev nD) : Dev nD := ⟨(4 * ((c.val / 4) % 2) + (c.val % 4) + 8) - 8 * (c.val / 8), partner_lt c⟩

theorem partner_partner (c : Dev nD) : partner (partner c) = c := by revert c; decide

def partnerEquiv : Dev nD ≃ Dev nD := ⟨partner, partner, partner_partner, partner_partner⟩

theorem partner_inj {a b : Dev nD} (h : partner a = partner b) : a = b := partnerEquiv.injective h

/-! ## The cells -/

/-- The cells of one device: the handshake, and per chunk the code sent (0), the code received (1), the scale sent (2)
    and the scale received (3). -/
abbrev Cells : Type := Unit ⊕ (Fin 4 × Fin 8)

theorem dsem_lt (i : Fin 4) (k : Fin 8) : 5 + (8 * i.val + k.val) < sig.nDmaSem := by
  revert k; revert i; decide

def dsem (i : Fin 4) (k : Fin 8) : DmaSem sig := ⟨5 + (8 * i.val + k.val), dsem_lt i k⟩

abbrev barS : Sem sig := (SemArray.scalar (sig.barrier 0 rfl) : Sems sig S_).sem

abbrev csem : Cells → SemLoc sig
  | .inl _ => .reg barS
  | .inr (i, k) => .dma (dsem i k)

abbrev kcell (cj : Dev nD × Cells) : GSem nD τ sig := ((cj.1 : Thread nD τ), csem cj.2)
abbrev barCell (c : Dev nD) : GSem nD τ sig := kcell (c, .inl ())

theorem csem_injective : Function.Injective csem := by decide

theorem kcell_injective : Function.Injective (kcell : Dev nD × Cells → GSem nD τ sig) := by
  rintro ⟨a, j⟩ ⟨b, j'⟩ e
  have h1 : a = b := Fin.ext (congrArg (fun g : GSem nD τ sig => g.1.1.val) e)
  have h2 : csem j = csem j' := congrArg Prod.snd e
  exact Prod.ext h1 (csem_injective h2)

def Nc : ℕ := (slot8 crM 0).view.dmaCredit
def Nr : ℕ := (row8 srM 0).view.dmaCredit
theorem Nc_pos : 0 < Nc := by unfold Nc; exact View.dmaCredit_pos _ (by decide)
theorem Nr_pos : 0 < Nr := by unfold Nr; exact View.dmaCredit_pos _ (by decide)

/-- What one duty of a cell adds to its counter. -/
def amt : Cells → ℕ
  | .inl _ => 1
  | .inr (i, _) => if i.val < 2 then Nc else Nr

theorem amt_pos (j : Cells) : 0 < amt j := by
  rcases j with _ | ⟨i, k⟩
  · exact Nat.one_pos
  · unfold amt; dsimp only; split
    · exact Nc_pos
    · exact Nr_pos

/-- The cell a semaphore is, if it is one of them. -/
def cellIx : SemLoc sig → Option Cells
  | .reg _ => some (.inl ())
  | .dma s => if 5 ≤ s.val then some (.inr (Fin.ofNat 4 ((s.val - 5) / 8), Fin.ofNat 8 ((s.val - 5) % 8))) else none

theorem cellIx_csem (j : Cells) : cellIx (csem j) = some j := by revert j; decide

/-! ## Contents -/

abbrev XT (F : FTy → Type) : Type := Dev nD → (main_arg0 : Ref sig .tc).ty.Contents (Elt F)

/-- Chunk `k` of a device's block: its rows 128k … 128k+127. -/
def tile (x : (main_arg0 : Ref sig .tc).ty.Contents (Elt F)) (k : Fin 8) : FVec F S128x1024 .f32 := (blk xM k).view.read (Elt F) x

/-- The scale of a chunk: its largest absolute value, but at least 1e-30, over 127. -/
def scaleOf (t : FVec F S128x1024 .f32) : F .f32 := k0_pay2 (shapeCast S1x128x1024 t shapeCasts_S128x1024_S1x128x1024)

/-- The codes of a chunk at a scale. -/
def codesAt (t : FVec F S128x1024 .f32) (s : F .f32) : IVec S128x1024 8 :=
  fptosi 8 (minimumf (broadcast S128x1024 (Scalar.ofBits .f32 0x42FE0000#32))
    (maximumf (broadcast S128x1024 (Scalar.ofBits .f32 0xC2FE0000#32))
      (roundeven (mulf t (broadcast S128x1024 (Scalar.divf (Scalar.ofBits .f32 0x3F800000#32) s))))))

/-- What the codes decode to at a scale. -/
def decode (q : IVec S128x1024 8) (s : F .f32) : FVec F S128x1024 .f32 :=
  mulf (sitofp .f32 q) (broadcast S128x1024 s)

def codesOf (t : FVec F S128x1024 .f32) : IVec S128x1024 8 := codesAt t (scaleOf t)
def rowOf (t : FVec F S128x1024 .f32) : FVec F S128 .f32 := broadcast S128 (scaleOf t)

/-- A piece of memory on a device, with contents reading as `v`; -/
def own {sp : Space} {s : Shape} {e : EltTy} (c : Dev nD) (M : Memref sig .tc sp s e) (v : s.Idx → Elt F e) : sProp 𝕄 :=
  iprop(∃ f : Buf (Elt F) (M.view.loc (c : Thread nD τ)), ⌜M.view.read (Elt F) f = v⌝ ∗ (M.view.loc (c : Thread nD τ) ↦[M.view.set]{fullShare} f))
/-- with any contents. -/
def free {sp : Space} {s : Shape} {e : EltTy} (c : Dev nD) (M : Memref sig .tc sp s e) : sProp 𝕄 :=
  iprop(∃ f : Buf (Elt F) (M.view.loc (c : Thread nD τ)), (M.view.loc (c : Thread nD τ) ↦[M.view.set]{fullShare} f))

omit [FloatOps F] in
instance own_storable {sp : Space} {s : Shape} {e : EltTy} (c : Dev nD) (M : Memref sig .tc sp s e) (v : s.Idx → Elt F e) :
    BI.Storable (upEmb : UEmb _ 𝕄) (own (F := F) c M v) := by unfold own; infer_instance
omit [FloatOps F] in
instance free_storable {sp : Space} {s : Shape} {e : EltTy} (c : Dev nD) (M : Memref sig .tc sp s e) :
    BI.Storable (upEmb : UEmb _ 𝕄) (free (F := F) c M) := by unfold free; infer_instance

omit [FloatOps F] in
theorem own_free {sp : Space} {s : Shape} {e : EltTy} (c : Dev nD) (M : Memref sig .tc sp s e) (v : s.Idx → Elt F e) :
    own (F := F) c M v ⊢ free c M := by
  unfold own free; iintro ⟨%f, -, H⟩; iexists f; iexact H

/-! ## The schedule -/

section Sched

variable (sw : Bool) (X : XT F)

/-- What the partner's signal hands over: its receive buffers. -/
def barPay (c : Dev nD) : sProp 𝕄 :=
  iprop((bigSep Finset.univ fun k : Fin 8 => free (partner c) (slot8 crM k)) ∗ bigSep Finset.univ fun k : Fin 8 => free (partner c) (row8 srM k))

omit [FloatOps F] in
instance barPay_storable (c : Dev nD) : BI.Storable (upEmb : UEmb _ 𝕄) (barPay (F := F) c) := by unfold barPay; infer_instance

/-- What the duty of a cell of device `c` hands over. -/
def pay (c : Dev nD) : Cells → sProp 𝕄
  | .inl _ => if sw then barPay c else iprop(emp)
  | .inr (i, k) =>
    if i = 0 then free c (slot8 csM k)
    else if i = 1 then own c (slot8 crM k) (codesOf (tile (X (partner c)) k))
    else if i = 2 then free c (row8 ssM k)
    else own c (row8 srM k) (rowOf (tile (X (partner c)) k))

instance pay_storable (c : Dev nD) (j : Cells) : BI.Storable (upEmb : UEmb _ 𝕄) (pay (F := F) sw X c j) := by
  rcases j with _ | ⟨i, k⟩
  · unfold pay; dsimp only; split <;> infer_instance
  · unfold pay; dsimp only; (repeat' split) <;> infer_instance

/-- The cells with a duty: the handshake, and all the others if the two devices exchange. -/
def live : Cells → Prop
  | .inl _ => True
  | .inr _ => sw = true

instance live_dec (j : Cells) : Decidable (live sw j) := by unfold live; cases j <;> infer_instance

def Rd : Rounds.Schedule (GSem nD τ sig) Unit 𝕄 where
  duties g r := (cellIx g.2).elim ∅ fun j => if r = 0 ∧ g.1.2 = .tc ∧ live sw j then {()} else ∅
  unitless _ := False
  amount g _ _ := (cellIx g.2).elim 1 amt
  payload g _ _ := (cellIx g.2).elim iprop(emp) (pay sw X g.1.1)
  amount_pos g _ _ _ := by
    rcases cellIx g.2 with _ | j
    · exact Nat.one_pos
    · exact amt_pos j

instance Rd_payload_storable (g : GSem nD τ sig) (r : ℕ) (d : Unit) :
    BI.Storable (upEmb : UEmb _ 𝕄) ((Rd (F := F) sw X).payload g r d) := by
  show BI.Storable upEmb ((cellIx g.2).elim iprop(emp) (pay sw X g.1.1))
  rcases cellIx g.2 with _ | j
  · show BI.Storable upEmb iprop(emp); infer_instance
  · show BI.Storable upEmb (pay sw X g.1.1 j); infer_instance

theorem duties_cell (c : Dev nD) (j : Cells) (h : live sw j) : (Rd (F := F) sw X).duties (kcell (c, j)) 0 = {()} := by
  unfold Rd kcell; dsimp only; rw [cellIx_csem, Option.elim_some]; exact if_pos ⟨rfl, rfl, h⟩

theorem duties_later (g : GSem nD τ sig) (r : ℕ) (hr : 1 ≤ r) : (Rd (F := F) sw X).duties g r = ∅ := by
  unfold Rd; dsimp only
  rcases cellIx g.2 with _ | j
  · rfl
  · exact if_neg fun h => absurd h.1 (by omega)

theorem duties_dead (c : Dev nD) (j : Cells) (h : ¬ live sw j) (r : ℕ) : (Rd (F := F) sw X).duties (kcell (c, j)) r = ∅ := by
  unfold Rd kcell; dsimp only; rw [cellIx_csem, Option.elim_some]; exact if_neg fun h' => h h'.2.2

theorem amount_cell (c : Dev nD) (j : Cells) : (Rd (F := F) sw X).amount (kcell (c, j)) 0 () = amt j := by
  unfold Rd kcell; dsimp only; rw [cellIx_csem, Option.elim_some]

theorem payload_cell (c : Dev nD) (j : Cells) : (Rd (F := F) sw X).payload (kcell (c, j)) 0 () = pay sw X c j := by
  unfold Rd kcell; dsimp only; rw [cellIx_csem, Option.elim_some]

theorem expect_cell (c : Dev nD) (j : Cells) (h : live sw j) : (Rd (F := F) sw X).expect (kcell (c, j)) 0 = amt j := by
  unfold Schedule.expect Schedule.amountOf; rw [duties_cell sw X c j h, Finset.sum_singleton, amount_cell]

theorem rest_cell (c : Dev nD) (j : Cells) (h : live sw j) :
    bigSep ((Rd (F := F) sw X).duties (kcell (c, j)) 0 \ ∅) (fun d => (Rd (F := F) sw X).payload (kcell (c, j)) 0 d) = pay sw X c j := by
  rw [Finset.sdiff_empty, duties_cell sw X c j h, bigSep_singleton, payload_cell]

/-! ## What a device owes -/

/-- The `n`-th remote copy of a device lands in this cell of its partner: scales at even `n`, codes at odd. -/
def landIx (n : ℕ) : Cells := .inr (if n % 2 = 0 then 3 else 1, Fin.ofNat 8 (n / 2))

/-- What device `c` owes its partner's cells from its `n`-th copy on. -/
def owedFrom (c : Dev nD) (n : ℕ) : CellTallies nD τ sig Unit :=
  ∑ i ∈ Finset.Ico n 16, tallyAt (kcell (partner c, landIx i)) () (amt (landIx i))

theorem owedFrom_step (c : Dev nD) {n : ℕ} (h : n < 16) :
    owedFrom c n = owedFrom c (n + 1) + tallyAt (kcell (partner c, landIx n)) () (amt (landIx n)) := by
  unfold owedFrom; rw [Ring.sum_Ico_succ h, add_comm]

theorem owedFrom_end (c : Dev nD) : owedFrom c 16 = 0 := by unfold owedFrom; rw [Finset.Ico_self, Finset.sum_empty]

/-- What is left to owe once the partner is signalled; -/
def O₁ (c : Dev nD) : CellTallies nD τ sig Unit := if sw then owedFrom c 0 else 0
/-- and at launch. -/
def O₀ (c : Dev nD) : CellTallies nD τ sig Unit := O₁ sw c + tallyAt (barCell (partner c)) () 1

def L (g : GSem nD τ sig) : Finset Unit := if g.1.2 = .tc then {()} else ∅
/-- The handshake at 1, the receive cells at 2, everything else at 0. -/
def lvS : SemLoc sig → ℕ
  | .reg _ => 1
  | .dma s => if (13 ≤ s.val ∧ s.val < 21) ∨ 29 ≤ s.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_land (n : ℕ) : lvS (csem (landIx n)) = 2 := by
  unfold landIx
  split
  · exact (by decide : ∀ k : Fin 8, lvS (csem (.inr (3, k))) = 2) _
  · exact (by decide : ∀ k : Fin 8, lvS (csem (.inr (1, k))) = 2) _

omit [FloatOps F] in
/-- A wait on a cell of device `c` is allowed while everything owed lies strictly above it. -/
theorem mayWait_of (c : Dev nD) (sm : SemLoc sig) (O : CellTallies nD τ sig Unit)
    (h : ∀ g u, 0 < O g u → g.1.2 = .tc ∧ lvS sm < lvS g.2) : (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp]; exact le_rfl) (fun g u hg => (h g u hg).2)

theorem owedFrom_pos {c : Dev nD} {n : ℕ} {g : GSem nD τ sig} {u : Unit} (h : 0 < owedFrom c n g u) :
    ∃ i, g = kcell (partner c, landIx i) := by
  by_contra hn
  refine absurd h (Nat.not_lt.mpr (le_of_eq ?_))
  unfold owedFrom
  rw [Finset.sum_apply, Finsupp.finset_sum_apply]
  refine Finset.sum_eq_zero fun i _ => ?_
  rw [tallyAt_apply, if_neg fun h' => hn ⟨i, h'.1⟩]

omit [FloatOps F] in
/-- A local wait while owing copies: their cells lie above. -/
theorem mayWait_low (c : Dev nD) (s : DmaSem sig) (hs : s.val < 5) (n : ℕ) :
    (levAts L lv : sProp 𝕄) ⊢ MayWait (c : Thread nD τ) (.dma s) () (owedFrom c n) :=
  mayWait_of c _ _ fun g u hg => by
    obtain ⟨i, rfl⟩ := owedFrom_pos hg
    refine ⟨rfl, ?_⟩
    rw [lvS_land]; unfold lvS; dsimp only; rw [if_neg (by omega)]; exact Nat.two_pos

theorem O₁_pos {c : Dev nD} {g : GSem nD τ sig} {u : Unit} (h : 0 < O₁ sw c g u) : ∃ i, g = kcell (partner c, landIx i) := by
  unfold O₁ at h; split at h
  · exact owedFrom_pos h
  · exact absurd h (Nat.lt_irrefl 0)

omit [FloatOps F] in
theorem mayWait_bar (c : Dev nD) : (levAts L lv : sProp 𝕄) ⊢ MayWait (c : Thread nD τ) (.reg barS) () (O₁ sw c) :=
  mayWait_of c _ _ fun g u hg => by
    obtain ⟨i, rfl⟩ := O₁_pos sw hg
    refine ⟨rfl, ?_⟩
    rw [lvS_land]; exact Nat.one_lt_two

omit [FloatOps F] in
theorem mayWait_stage (c : Dev nD) (s : DmaSem sig) (hs : s.val < 5) (O : CellTallies nD τ sig Unit) (hO : O = O₀ sw c ∨ O = 0) :
    (levAts L lv : sProp 𝕄) ⊢ MayWait (c : Thread nD τ) (.dma s) () O := by
  rcases hO with rfl | rfl
  · refine mayWait_of c _ _ fun g u hg => ?_
    have hlow : lvS (.dma s) = 0 := by unfold lvS; dsimp only; rw [if_neg (by omega)]
    unfold O₀ at hg
    rw [Pi.add_apply, Finsupp.add_apply, tallyAt_apply] at hg
    by_cases h : g = barCell (partner c) ∧ u = ()
    · rw [h.1]; exact ⟨rfl, by rw [hlow]; exact Nat.one_pos⟩
    · rw [if_neg h, Nat.add_zero] at hg
      obtain ⟨i, rfl⟩ := O₁_pos sw hg
      exact ⟨rfl, by rw [hlow, lvS_land]; exact Nat.two_pos⟩
  · rw [MayWait_zero]; iintro -; iempintro

/-! ## The shared records, and what a device holds of the exchange -/

def records (K : Dev nD × Cells → ℕ) : sProp 𝕄 :=
  iprop((bigSep Finset.univ fun cj : Dev nD × Cells => cellInv ER (Rd sw X) (K cj) (kcell cj))
    ∗ bigSep Finset.univ fun cj : Dev nD × Cells => reached ER (kcell cj) 0)

instance records_persistent (K : Dev nD × Cells → ℕ) : BI.Persistent (records sw X K) := by unfold records; infer_instance

theorem inv_at (K : Dev nD × Cells → ℕ) (cj : Dev nD × Cells) : records sw X K ⊢ cellInv ER (Rd sw X) (K cj) (kcell cj) := by
  unfold records; exact sep_elim_left.trans (bigSep_elim (Finset.mem_univ cj))
theorem reached_at (K : Dev nD × Cells → ℕ) (cj : Dev nD × Cells) : records sw X K ⊢ reached ER (kcell cj) 0 := by
  unfold records; exact sep_elim_right.trans (bigSep_elim (Finset.mem_univ cj))

/-- What a wait on one of its cells needs of a device: its position there and the credit of the round. -/
def due (c : Dev nD) (j : Cells) : sProp 𝕄 := iprop(atPos ER (kcell (c, j)) 0 ∅ 0 ∗ cred (tallyAt (kcell (c, j)) () (amt j)))

/-- The two tokens of the `i`-th kind of copy of chunk `k`: the sender's (cell `i`) and the receiver's (cell `i + 1`). -/
def toks (c : Dev nD) (i i' : Fin 4) (k : Fin 8) : sProp 𝕄 :=
  iprop(dutyTok ER (kcell (c, .inr (i, k))) 0 () ∗ dutyTok ER (kcell (partner c, .inr (i', k))) 0 ())

end Sched

end Cert.Swap

end
-- ==== Proof.Steps.lean ====
/-
  The steps of the body that touch the exchange, one rule for every chunk: the copy of a scale row, the copy of a
  code slot, and a wait on any of the cells.
-/
module

public import proofs.«01_k».proof.Proof.Protocol

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

section Steps

variable (sw : Bool) (X : XT F) (K : Dev nD × Cells → ℕ)

/-- A wait for the one duty of a cell: the cell is done with, its counter back at zero, its payload handed over. -/
theorem wp_wait_cell (c : Dev nD) (j : Cells) (hl : live sw j) {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (csem j) (amt j) Kt)
    {α : Type} {Q : α → sProp 𝕄} {k : PUnit → Prog (TpuEff nD τ sig (Elt F) Λ₀ .tc) α}
    (O : CellTallies nD τ sig Unit) (W : Waits sig Unit) :
    iprop(records sw X K ∗ due c j ∗ owes (c : Thread nD τ) O W ∗ MayWait (c : Thread nD τ) (csem j) () O)
      ⊢ iprop(((owes (c : Thread nD τ) O (insert (csem j, ()) W) ∗ semVal (kcell (c, j)) 0 ∗ pay sw X c j)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold due
  iintro ⟨#HR, ⟨Hat, Hcr⟩, HO, HM⟩ Hk
  ihave #HI := (inv_at sw X K (c, j)) $$ HR
  iapply (Rounds.wp_wait_rest_token 𝒱₀ ER (Rd sw X) (c : Thread nD τ) none (κ := K (c, j)) (sm := csem j)
      hw (Set.mem_univ _) () (O := O) (W := W) (R := 0) (m := 0) (T := ∅)
      (by rw [Nat.zero_add]; exact (expect_cell sw X c j hl).symm)) $$ [Hcr HO HM Hat]
  · isplitr; · iexact HI
    isplitl [Hcr]; · iexact Hcr
    isplitl [HO]; · iexact HO
    isplitl [HM]; · iexact HM
    iexact Hat
  iintro ⟨HO, Hat, -, Hpay⟩
  imod (Rounds.cell_close ER (Rd sw X) (Set.mem_univ (K (c, j))) (fun h => h) (R := 0 + 1) (duties_later sw X (kcell (c, j)))) $$ [Hat] with Hz
  · isplitr; · iexact HI
    iexact Hat
  iapply Hk
  isplitl [HO]; · iexact HO
  isplitl [Hz]; · iexact Hz
  iapply (Entails.of_eq (rest_cell sw X c j hl))
  iexact Hpay

/-- A cell without a duty is done with at once. -/
theorem close_dead (c : Dev nD) (j : Cells) (hl : ¬ live sw j) :
    iprop(records sw X K ∗ atPos ER (kcell (c, j)) 0 ∅ 0) ⊢ |={Set.univ}=> (semVal (kcell (c, j)) 0 : sProp 𝕄) := by
  iintro ⟨#HR, Hat⟩
  ihave #HI := (inv_at sw X K (c, j)) $$ HR
  imod (Rounds.cell_close ER (Rd sw X) (Set.mem_univ (K (c, j))) (fun h => h) (R := 0) (fun r _ => duties_dead sw X c j hl r)) $$ [Hat] with Hz
  · isplitr; · iexact HI
    iexact Hat
  imodintro; iexact Hz

theorem landIx_scale (k : Fin 8) : landIx (2 * k.val) = .inr (3, k) := by revert k; decide
theorem landIx_code (k : Fin 8) : landIx (2 * k.val + 1) = .inr (1, k) := by revert k; decide

theorem owed_scale (c : Dev nD) (k : Fin 8) :
    owedFrom c (2 * k.val) = owedFrom c (2 * k.val + 1) + tallyAt (kcell (partner c, .inr (3, k))) () Nr := by
  rw [owedFrom_step c (by have := k.isLt; omega), landIx_scale]; rfl
theorem owed_code (c : Dev nD) (k : Fin 8) :
    owedFrom c (2 * k.val + 1) = owedFrom c (2 * k.val + 2) + tallyAt (kcell (partner c, .inr (1, k))) () Nc := by
  rw [owedFrom_step c (by have := k.isLt; omega), landIx_code]; rfl

/-- What device `c` needs to copy the scale of chunk `k`, besides its own row; -/
def scaleTicket (c : Dev nD) (k : Fin 8) : sProp 𝕄 :=
  iprop(atPos ER (kcell (c, .inr (2, k))) 0 ∅ 0 ∗ toks c 2 3 k ∗ free (partner c) (row8 srM k))
/-- and its codes. -/
def codeTicket (c : Dev nD) (k : Fin 8) : sProp 𝕄 :=
  iprop(atPos ER (kcell (c, .inr (0, k))) 0 ∅ 0 ∗ toks c 0 1 k ∗ free (partner c) (slot8 crM k))

theorem dmaCredit_row (k : Fin 8) : (row8 srM k).view.dmaCredit = Nr := rfl
theorem dmaCredit_slot (k : Fin 8) : (slot8 crM k).view.dmaCredit = Nc := rfl

theorem duty_mem (c : Dev nD) (i : Fin 4) (k : Fin 8) : () ∈ (Rd (F := F) true X).duties (kcell (c, .inr (i, k))) 0 := by
  rw [duties_cell true X c _ (show live true (.inr (i, k)) from rfl)]; exact Finset.mem_singleton_self _

/-- The row copied goes back to its sender; -/
theorem pay_scale_sent (c : Dev nD) (k : Fin 8) (f : Buf (Elt F) ((row8 ssM k).view.loc (c : Thread nD τ))) :
    ((row8 ssM k).view.loc (c : Thread nD τ) ↦[(row8 ssM k).view.set]{fullShare} f : sProp 𝕄) ⊢ (Rd true X).payload (kcell (c, .inr (2, k))) 0 () := by
  rw [payload_cell]
  show _ ⊢ free c (row8 ssM k)
  unfold free; iintro H; iexists f; iexact H
/-- the partner's row holds the scale of this device's chunk. -/
theorem pay_scale_landed (c : Dev nD) (k : Fin 8) {fs : Buf (Elt F) ((row8 ssM k).view.loc (c : Thread nD τ))}
    (hfs : (row8 ssM k).view.read (Elt F) fs = rowOf (tile (X c) k)) (fd : Buf (Elt F) ((row8 srM k).view.loc (partner c : Thread nD τ))) :
    ((row8 srM k).view.loc (partner c : Thread nD τ) ↦[(row8 srM k).view.set]{fullShare}
        ((row8 srM k).view.write (Elt F) fd ((row8 ssM k).view.read (Elt F) fs) Finset.univ) : sProp 𝕄)
      ⊢ (Rd true X).payload (kcell (partner c, .inr (3, k))) 0 () := by
  rw [payload_cell]
  show _ ⊢ own (partner c) (row8 srM k) (rowOf (tile (X (partner (partner c))) k))
  rw [partner_partner]
  unfold own; iintro H; iexists ((row8 srM k).view.write (Elt F) fd ((row8 ssM k).view.read (Elt F) fs) Finset.univ)
  isplitr
  · ipureintro; exact (View.read_write_univ _ _).trans hfs
  iexact H
/-- The slot copied goes back to its sender; -/
theorem pay_code_sent (c : Dev nD) (k : Fin 8) (f : Buf (Elt F) ((slot8 csM k).view.loc (c : Thread nD τ))) :
    ((slot8 csM k).view.loc (c : Thread nD τ) ↦[(slot8 csM k).view.set]{fullShare} f : sProp 𝕄) ⊢ (Rd true X).payload (kcell (c, .inr (0, k))) 0 () := by
  rw [payload_cell]
  show _ ⊢ free c (slot8 csM k)
  unfold free; iintro H; iexists f; iexact H
/-- the partner's slot holds the codes of this device's chunk. -/
theorem pay_code_landed (c : Dev nD) (k : Fin 8) {fs : Buf (Elt F) ((slot8 csM k).view.loc (c : Thread nD τ))}
    (hfs : (slot8 csM k).view.read (Elt F) fs = codesOf (tile (X c) k)) (fd : Buf (Elt F) ((slot8 crM k).view.loc (partner c : Thread nD τ))) :
    ((slot8 crM k).view.loc (partner c : Thread nD τ) ↦[(slot8 crM k).view.set]{fullShare}
        ((slot8 crM k).view.write (Elt F) fd ((slot8 csM k).view.read (Elt F) fs) Finset.univ) : sProp 𝕄)
      ⊢ (Rd true X).payload (kcell (partner c, .inr (1, k))) 0 () := by
  rw [payload_cell]
  show _ ⊢ own (partner c) (slot8 crM k) (codesOf (tile (X (partner (partner c))) k))
  rw [partner_partner]
  unfold own; iintro H; iexists ((slot8 crM k).view.write (Elt F) fd ((slot8 csM k).view.read (Elt F) fs) Finset.univ)
  isplitr
  · ipureintro; exact (View.read_write_univ _ _).trans hfs
  iexact H

/-- The copy of the scale row of chunk `k` to the partner. -/
theorem wp_send_scale (c n : Dev nD) (hn : n = partner c) (k : Fin 8) {hsc : (row8 srM k : Memref sig (Dev.tc n : Thread nD τ).2.kind .vmem S128 .f32).view.ref.isScScratch = false}
    {hsrc : (row8 ssM k).view.WordExact} {hdst : (row8 srM k).view.WordExact}
    {fs : Buf (Elt F) ((row8 ssM k).view.loc (c : Thread nD τ))}
    {hsem : DmaTarget.Typed .vmem (.dma (dsem 3 k)) (.remote (Dev.tc n : Thread nD τ) (row8 srM k) (.dma (dsem 2 k)) hsc)}
    {α : Type} {Q : α → sProp 𝕄} {kt : PUnit → Prog (TpuEff nD τ sig (Elt F) Λ₀ .tc) α} (W : Waits sig Unit) :
    iprop(records true X K ∗ ((row8 ssM k).view.loc (c : Thread nD τ) ↦[(row8 ssM k).view.set]{fullShare} fs) ∗ owes (c : Thread nD τ) (owedFrom c (2 * k.val)) W
        ∗ scaleTicket c k ∗ ⌜(row8 ssM k).view.read (Elt F) fs = rowOf (tile (X c) k)⌝)
      ⊢ iprop(((due c (.inr (2, k)) ∗ owes (c : Thread nD τ) (owedFrom c (2 * k.val + 1)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (row8 ssM k) (.remote (Dev.tc n : Thread nD τ) (row8 srM k) (.dma (dsem 2 k)) hsc) (.dma (dsem 3 k)) hsrc hdst hsem) kt) Q) := by
  subst hn
  unfold scaleTicket toks free due
  iintro ⟨#HR, Hs, HO, ⟨Hat, ⟨Ht1, Ht2⟩, ⟨%fd, Hd⟩⟩, %hfs⟩ Hk
  iapply (Rounds.wp_send_pointsTo 𝒱₀ ER (Rd true X) (c : Thread nD τ) none (κ₁ := K (c, .inr (2, k))) (κ₂ := K (partner c, .inr (3, k)))
    (r₁ := 0) (r₂ := 0) (d₁ := ()) (d₂ := ()) (fs := fs) (fd := fd)
    (duty_mem X c 2 k)
    (duty_mem X (partner c) 3 k)
    () () Nr ((View.amount_dma _ _).trans (dmaCredit_row k)) (amount_cell true X c (.inr (2, k))) (amount_cell true X (partner c) (.inr (3, k)))
    (owedFrom c (2 * k.val + 1)) (owed_scale c k) (W := W)
    (pay_scale_sent X c k fs) (pay_scale_landed X c k hfs fd)) $$ [HO Hs Ht1 Ht2 Hd]
  · isplitr; · iapply (inv_at true X K (c, .inr (2, k))); iexact HR
    isplitr; · iapply (inv_at true X K (partner c, .inr (3, k))); iexact HR
    isplitl [Hs]; · iexact Hs
    isplitl [Hd]; · iexact Hd
    isplitl [HO]; · iexact HO
    isplitl [Ht1]; · iexact Ht1
    isplitr; · iapply (reached_at true X K (c, .inr (2, k))); iexact HR
    isplitl [Ht2]; · iexact Ht2
    iapply (reached_at true X K (partner c, .inr (3, k))); iexact HR
  iintro ⟨Hcr, HO⟩
  iapply Hk
  isplitl [Hat Hcr]
  · isplitl [Hat]; · iexact Hat
    iexact Hcr
  iexact HO

/-- The copy of the codes of chunk `k` to the partner. -/
theorem wp_send_code (c n : Dev nD) (hn : n = partner c) (k : Fin 8) {hsc : (slot8 crM k : Memref sig (Dev.tc n : Thread nD τ).2.kind .vmem S128x1024 .i8).view.ref.isScScratch = false}
    {hsrc : (slot8 csM k).view.WordExact} {hdst : (slot8 crM k).view.WordExact}
    {fs : Buf (Elt F) ((slot8 csM k).view.loc (c : Thread nD τ))}
    {hsem : DmaTarget.Typed .vmem (.dma (dsem 1 k)) (.remote (Dev.tc n : Thread nD τ) (slot8 crM k) (.dma (dsem 0 k)) hsc)}
    {α : Type} {Q : α → sProp 𝕄} {kt : PUnit → Prog (TpuEff nD τ sig (Elt F) Λ₀ .tc) α} (W : Waits sig Unit) :
    iprop(records true X K ∗ ((slot8 csM k).view.loc (c : Thread nD τ) ↦[(slot8 csM k).view.set]{fullShare} fs) ∗ owes (c : Thread nD τ) (owedFrom c (2 * k.val + 1)) W
        ∗ codeTicket c k ∗ ⌜(slot8 csM k).view.read (Elt F) fs = codesOf (tile (X c) k)⌝)
      ⊢ iprop(((due c (.inr (0, k)) ∗ owes (c : Thread nD τ) (owedFrom c (2 * k.val + 2)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (slot8 csM k) (.remote (Dev.tc n : Thread nD τ) (slot8 crM k) (.dma (dsem 0 k)) hsc) (.dma (dsem 1 k)) hsrc hdst hsem) kt) Q) := by
  subst hn
  unfold codeTicket toks free due
  iintro ⟨#HR, Hs, HO, ⟨Hat, ⟨Ht1, Ht2⟩, ⟨%fd, Hd⟩⟩, %hfs⟩ Hk
  iapply (Rounds.wp_send_pointsTo 𝒱₀ ER (Rd true X) (c : Thread nD τ) none (κ₁ := K (c, .inr (0, k))) (κ₂ := K (partner c, .inr (1, k)))
    (r₁ := 0) (r₂ := 0) (d₁ := ()) (d₂ := ()) (fs := fs) (fd := fd)
    (duty_mem X c 0 k)
    (duty_mem X (partner c) 1 k)
    () () Nc ((View.amount_dma _ _).trans (dmaCredit_slot k)) (amount_cell true X c (.inr (0, k))) (amount_cell true X (partner c) (.inr (1, k)))
    (owedFrom c (2 * k.val + 2)) (owed_code c k) (W := W)
    (pay_code_sent X c k fs) (pay_code_landed X c k hfs fd)) $$ [HO Hs Ht1 Ht2 Hd]
  · isplitr; · iapply (inv_at true X K (c, .inr (0, k))); iexact HR
    isplitr; · iapply (inv_at true X K (partner c, .inr (1, k))); iexact HR
    isplitl [Hs]; · iexact Hs
    isplitl [Hd]; · iexact Hd
    isplitl [HO]; · iexact HO
    isplitl [Ht1]; · iexact Ht1
    isplitr; · iapply (reached_at true X K (c, .inr (0, k))); iexact HR
    isplitl [Ht2]; · iexact Ht2
    iapply (reached_at true X K (partner c, .inr (1, k))); iexact HR
  iintro ⟨Hcr, HO⟩
  iapply Hk
  isplitl [Hat Hcr]
  · isplitl [Hat]; · iexact Hat
    iexact Hcr
  iexact HO

/-- A wait, owing nothing, on one of the cells of the copies. -/
theorem wp_wait_copy (c : Dev nD) (i : Fin 4) (k : Fin 8) {sp sp' : Space} {s s' : Shape} {e e' : EltTy}
    {src : Memref sig .tc sp' s' e'} {dst : Memref sig .tc sp s e} (hamt : dst.view.dmaCredit = amt (.inr (i, k)))
    {hsrc : src.view.WordExact} {hdst : dst.view.WordExact}
    {α : Type} {Q : α → sProp 𝕄} {kt : PUnit → Prog (TpuEff nD τ sig (Elt F) Λ₀ .tc) α} (W : Waits sig Unit) :
    iprop(records true X K ∗ due c (.inr (i, k)) ∗ owes (c : Thread nD τ) 0 W)
      ⊢ iprop(((owes (c : Thread nD τ) 0 (insert (csem (.inr (i, k)), ()) W) ∗ semVal (kcell (c, .inr (i, k))) 0 ∗ pay true X c (.inr (i, k)))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dsem i k) src dst hsrc hdst) kt) Q) := by
  iintro ⟨#HR, Hd, HO⟩
  iapply (wp_wait_cell true X K c (.inr (i, k)) rfl (w := .waitDma2 (dsem i k) src dst hsrc hdst)
    (fun Kt => by rw [wpE_waitDma2_eq, hamt]) 0 W)
  isplitr; · iexact HR
  isplitl [Hd]; · iexact Hd
  isplitl [HO]; · iexact HO
  rw [MayWait_zero]; iempintro

/-- A wait for the partner's scale row: -/
theorem wp_landed_scale (c : Dev nD) (k : Fin 8) {hsrc : (row8 ssM k).view.WordExact} {hdst : (row8 srM k).view.WordExact}
    {α : Type} {Q : α → sProp 𝕄} {kt : PUnit → Prog (TpuEff nD τ sig (Elt F) Λ₀ .tc) α} (W : Waits sig Unit) :
    iprop(records true X K ∗ due c (.inr (3, k)) ∗ owes (c : Thread nD τ) 0 W)
      ⊢ iprop(((owes (c : Thread nD τ) 0 (insert (csem (.inr (3, k)), ()) W) ∗ semVal (kcell (c, .inr (3, k))) 0
              ∗ (∃ f : Buf (Elt F) ((row8 srM k).view.loc (c : Thread nD τ)), ⌜(row8 srM k).view.read (Elt F) f = rowOf (tile (X (partner c)) k)⌝ ∗ (((row8 srM k).view.loc (c : Thread nD τ) ↦[(row8 srM k).view.set]{fullShare} f))))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dsem 3 k) (row8 ssM k) (row8 srM k) hsrc hdst) kt) Q) :=
  wp_wait_copy X K c 3 k (src := row8 ssM k) (dst := row8 srM k) rfl W

/-- a wait for the partner's codes; -/
theorem wp_landed_codes (c : Dev nD) (k : Fin 8) {hsrc : (slot8 csM k).view.WordExact} {hdst : (slot8 crM k).view.WordExact}
    {α : Type} {Q : α → sProp 𝕄} {kt : PUnit → Prog (TpuEff nD τ sig (Elt F) Λ₀ .tc) α} (W : Waits sig Unit) :
    iprop(records true X K ∗ due c (.inr (1, k)) ∗ owes (c : Thread nD τ) 0 W)
      ⊢ iprop(((owes (c : Thread nD τ) 0 (insert (csem (.inr (1, k)), ()) W) ∗ semVal (kcell (c, .inr (1, k))) 0
              ∗ (∃ f : Buf (Elt F) ((slot8 crM k).view.loc (c : Thread nD τ)), ⌜(slot8 crM k).view.read (Elt F) f = codesOf (tile (X (partner c)) k)⌝ ∗ (((slot8 crM k).view.loc (c : Thread nD τ) ↦[(slot8 crM k).view.set]{fullShare} f))))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dsem 1 k) (slot8 csM k) (slot8 crM k) hsrc hdst) kt) Q) :=
  wp_wait_copy X K c 1 k (src := slot8 csM k) (dst := slot8 crM k) rfl W

/-- a wait for the own scale row to have left; -/
theorem wp_sent_scale (c : Dev nD) (k : Fin 8) {hsrc : (row8 srM k).view.WordExact} {hdst : (row8 ssM k).view.WordExact}
    {α : Type} {Q : α → sProp 𝕄} {kt : PUnit → Prog (TpuEff nD τ sig (Elt F) Λ₀ .tc) α} (W : Waits sig Unit) :
    iprop(records true X K ∗ due c (.inr (2, k)) ∗ owes (c : Thread nD τ) 0 W)
      ⊢ iprop(((owes (c : Thread nD τ) 0 (insert (csem (.inr (2, k)), ()) W) ∗ semVal (kcell (c, .inr (2, k))) 0
              ∗ (∃ f : Buf (Elt F) ((row8 ssM k).view.loc (c : Thread nD τ)), (((row8 ssM k).view.loc (c : Thread nD τ) ↦[(row8 ssM k).view.set]{fullShare} f))))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dsem 2 k) (row8 srM k) (row8 ssM k) hsrc hdst) kt) Q) :=
  wp_wait_copy X K c 2 k (src := row8 srM k) (dst := row8 ssM k) rfl W

/-- a wait for the own codes to have left. -/
theorem wp_sent_codes (c : Dev nD) (k : Fin 8) {hsrc : (slot8 crM k).view.WordExact} {hdst : (slot8 csM k).view.WordExact}
    {α : Type} {Q : α → sProp 𝕄} {kt : PUnit → Prog (TpuEff nD τ sig (Elt F) Λ₀ .tc) α} (W : Waits sig Unit) :
    iprop(records true X K ∗ due c (.inr (0, k)) ∗ owes (c : Thread nD τ) 0 W)
      ⊢ iprop(((owes (c : Thread nD τ) 0 (insert (csem (.inr (0, k)), ()) W) ∗ semVal (kcell (c, .inr (0, k))) 0
              ∗ (∃ f : Buf (Elt F) ((slot8 csM k).view.loc (c : Thread nD τ)), (((slot8 csM k).view.loc (c : Thread nD τ) ↦[(slot8 csM k).view.set]{fullShare} f))))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dsem 0 k) (slot8 crM k) (slot8 csM k) hsrc hdst) kt) Q) :=
  wp_wait_copy X K c 0 k (src := slot8 crM k) (dst := slot8 csM k) rfl W

end Steps

end Cert.Swap

end
-- ==== Proof.Pieces.lean ====
/-
  Reading a piece of memory that has been written: a slot written as a whole, a slot written through the buffer
  that holds it, a load of a slot through its buffer.
-/
module

public import proofs.«01_k».proof.Proof.Protocol
public import Idealize.ShloMosaic.Lib.Pipeline.Value

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Pieces

/-- The first index of a row. -/
def zero128 : S128.Idx := fun a => ⟨0, by revert a; decide⟩

variable {sp : Space} {s s' : Shape} {e : EltTy}

omit [FloatOps F] in
/-- A squeezed slice reads what a load of the slice reads, in the squeezed shape. -/
theorem read_squeezed (M : Memref sig .tc sp s e) (r : Rect s) (hr : ∀ a, r.stride a = 1) (hq : r.shape.Squeezes s') (hc : r.shape.ShapeCasts s')
    (f : M.view.ty.Contents (Elt F)) :
    ((M.slice r hr).squeeze s' hq).view.read (Elt F) f = shapeCast s' (M.view.readAt (Elt F) r.toLoadRect f) hc := rfl

omit [FloatOps F] in
/-- A squeezed slice, after a store of the slice, reads what was stored. -/
theorem read_squeezed_store (M : Memref sig .tc sp s e) (r : Rect s) (hr : ∀ a, r.stride a = 1) (hq : r.shape.Squeezes s')
    (hc : r.shape.ShapeCasts s') (f : M.view.ty.Contents (Elt F)) (v : r.shape.Idx → Elt F e) :
    ((M.slice r hr).squeeze s' hq).view.read (Elt F) ((M.access r).write (Elt F) f v Finset.univ) = shapeCast s' v hc := by
  rw [read_squeezed M r hr hq hc]
  exact congrArg (fun w => shapeCast s' w hc) (View.read_write_univ (Val := Elt F) (v := M.access r) f v)

omit [FloatOps F] in
/-- A load of a slice reads what the squeezed slice reads, in the shape of the slice. -/
theorem load_squeezed (M : Memref sig .tc sp s e) (r : Rect s) (hr : ∀ a, r.stride a = 1) (hq : r.shape.Squeezes s') (hc : r.shape.ShapeCasts s')
    (hc' : s'.ShapeCasts r.shape) (f : M.view.ty.Contents (Elt F)) :
    M.view.readAt (Elt F) r.toLoadRect f = shapeCast r.shape (((M.slice r hr).squeeze s' hq).view.read (Elt F) f) hc' := by
  rw [read_squeezed M r hr hq hc, shapeCast_shapeCast]

omit [FloatOps F] in
/-- A memref last written as a whole reads as what was written then. -/
theorem read_last_whole (M : Memref sig .tc sp s e) (f : M.view.ty.Contents (Elt F)) (v : s.Idx → Elt F e) (E : List (View.Piece (Elt F) s e)) :
    M.view.read (Elt F) (M.view.writes (Elt F) f (⟨Rect.whole s, v⟩ :: E)) = v := by
  funext y
  have h := View.read_writes_cons_emb M.view f (Rect.whole s) v E y
  rwa [Rect.emb_whole_apply] at h

omit [FloatOps F] in
/-- A tile brought by a copy into a slot of the input staging buffer and loaded from it. -/
theorem load_tile (M : Memref sig .tc .vmem S2x128x1024 .f32) (i : Fin 2) (f : M.view.ty.Contents (Elt F)) (t : FVec F S128x1024 .f32)
    (E : List (View.Piece (Elt F) S128x1024 .f32)) :
    (M.view.readAt (Elt F) (slot2R i).toLoadRect ((slot2 M i).view.writes (Elt F) f (⟨Rect.whole S128x1024, t⟩ :: E)) : FVec F S1x128x1024 .f32)
      = shapeCast S1x128x1024 t shapeCasts_S128x1024_S1x128x1024 := by
  have h := load_squeezed (F := F) M (slot2R i) (fun _ => rfl) squeezes_S1x128x1024_S128x1024 shapeCasts_S1x128x1024_S128x1024
    shapeCasts_S128x1024_S1x128x1024 ((slot2 M i).view.writes (Elt F) f (⟨Rect.whole S128x1024, t⟩ :: E))
  exact h.trans (congrArg (fun w => shapeCast S1x128x1024 w shapeCasts_S128x1024_S1x128x1024) (read_last_whole (slot2 M i) f t E))

omit [FloatOps F] in
/-- A value stored in a slot of the output staging buffer and read from it by the copy. -/
theorem store_tile (M : Memref sig .tc .vmem S2x128x1024 .f32) (i : Fin 2) (f : M.view.ty.Contents (Elt F)) (v : FVec F S1x128x1024 .f32) :
    (slot2 M i).view.read (Elt F) ((M.access (slot2R i)).write (Elt F) f v Finset.univ)
      = shapeCast S128x1024 v shapeCasts_S1x128x1024_S128x1024 :=
  read_squeezed_store M (slot2R i) (fun _ => rfl) _ _ f v

omit [FloatOps F] in
/-- The codes stored in a slot of the code buffer. -/
theorem store_codes (M : Memref sig .tc .vmem S8x128x1024 .i8) (k : Fin 8) (f : M.view.ty.Contents (Elt F)) (v : S1x128x1024.Idx → Elt F .i8) :
    (slot8 M k).view.read (Elt F) ((M.access (slot8R k)).write (Elt F) f v Finset.univ)
      = shapeCast S128x1024 v shapeCasts_S1x128x1024_S128x1024 :=
  read_squeezed_store M (slot8R k) (fun _ => rfl) _ _ f v

omit [FloatOps F] in
/-- The scale stored in a row of the scale buffer. -/
theorem store_row (M : Memref sig .tc .vmem S8x128 .f32) (k : Fin 8) (f : M.view.ty.Contents (Elt F)) (v : FVec F S1x128 .f32) :
    (row8 M k).view.read (Elt F) ((M.access (row8R k)).write (Elt F) f v Finset.univ)
      = shapeCast S128 v shapeCasts_S1x128_S128 :=
  read_squeezed_store M (row8R k) (fun _ => rfl) _ _ f v

omit [FloatOps F] in
/-- A load of a slot of the code buffer. -/
theorem load_codes (M : Memref sig .tc .vmem S8x128x1024 .i8) (k : Fin 8) (f : M.view.ty.Contents (Elt F)) :
    M.view.readAt (Elt F) (slot8R k).toLoadRect f
      = shapeCast S1x128x1024 ((slot8 M k).view.read (Elt F) f) shapeCasts_S128x1024_S1x128x1024 :=
  load_squeezed (F := F) M (slot8R k) (fun _ => rfl) squeezes_S1x128x1024_S128x1024 shapeCasts_S1x128x1024_S128x1024 _ f

omit [FloatOps F] in
/-- A load of the first scale of a row of the scale buffer. -/
theorem load_scale (M : Memref sig .tc .vmem S8x128 .f32) (k : Fin 8) (h : ∀ a, (![k.val, 0] : Fin 2 → Nat) a + S1x1.size a ≤ S8x128.size a)
    (f : M.view.ty.Contents (Elt F)) :
    extractAt ![0, 0] (M.view.readAt (Elt F) (Rect.unit (s := S8x128) ![k.val, 0] S1x1.size h).toLoadRect f : FVec F S1x1 .f32) inpos_S1x1_p0_0
      = (row8 M k).view.read (Elt F) f zero128 := by
  have hr := read_squeezed (F := F) M (row8R k) (fun _ => rfl) squeezes_S1x128_S128 shapeCasts_S1x128_S128 f
  have h1 := congrFun hr zero128
  rw [h1]
  show M.view.read (Elt F) f _ = M.view.read (Elt F) f ((row8R k).emb (Shape.reshapeEquiv _ zero128))
  rw [show Shape.reshapeEquiv (squeezes_S1x128_S128.numel_eq) zero128 = Fin.cons ⟨0, Nat.one_pos⟩ zero128 from Shape.reshapeEquiv_cons_one _ _]
  congr 1
  funext a
  apply Fin.ext
  match a with
  | ⟨0, _⟩ => rfl
  | ⟨1, _⟩ => rfl

/-! ## What the body's stores leave -/

/-- A tile `t` copied into slot `i` of the input staging buffer, as the body loads it. -/
abbrev loaded (i : Fin 2) (f : (slot2 xsM i).view.ty.Contents (Elt F)) (E : List (View.Piece (Elt F) S128x1024 .f32)) (t : FVec F S128x1024 .f32) : FVec F S1x128x1024 .f32 :=
  xsM.view.readAt (Elt F) (slot2R i).toLoadRect ((slot2 xsM i).view.writes (Elt F) f (⟨Rect.whole S128x1024, t⟩ :: E))

omit [FloatOps F] in
theorem loaded_eq (i : Fin 2) (f : (slot2 xsM i).view.ty.Contents (Elt F)) (E : List (View.Piece (Elt F) S128x1024 .f32)) (t : FVec F S128x1024 .f32) :
    loaded i f E t = shapeCast S1x128x1024 t shapeCasts_S128x1024_S1x128x1024 := load_tile xsM i f t E

omit [FloatOps F] in
/-- A piece of memory whose contents read as `v`. -/
theorem own_of (c : Dev nD) (M : Memref sig .tc sp s e) (v : s.Idx → Elt F e) {f : Buf (Elt F) (M.view.loc (c : Thread nD τ))} :
    (iprop((M.view.loc (c : Thread nD τ) ↦[M.view.set]{fullShare} f) ∗ ⌜M.view.read (Elt F) f = v⌝) : sProp 𝕄) ⊢ own c M v := by
  unfold own
  iintro ⟨H, %h⟩; iexists f
  isplitr
  · ipureintro; exact h
  · iexact H

theorem pay1_cast (t : FVec F S128x1024 .f32) : k0_pay1 (shapeCast S1x128x1024 t shapeCasts_S128x1024_S1x128x1024) = t := by
  unfold k0_pay1; exact shapeCast_shapeCast _ _ _

theorem pay4_pay3 (v : FVec F S1x128x1024 .f32) :
    shapeCast S128 (k0_pay4 (k0_pay3 v)) shapeCasts_S1x128_S128 = broadcast S128 (k0_pay2 v) := by
  unfold k0_pay4 k0_pay3; exact shapeCast_shapeCast _ _ _

theorem pay5_codes (t : FVec F S128x1024 .f32) (s : F .f32) :
    shapeCast S128x1024 (k0_pay5 t s) shapeCasts_S1x128x1024_S128x1024 = codesAt t s := by
  unfold k0_pay5; exact shapeCast_shapeCast _ _ _

theorem pay39_decode (q : IVec S128x1024 8) (v : FVec F S1x1 .f32) :
    k0_pay39 (shapeCast S1x128x1024 q shapeCasts_S128x1024_S1x128x1024) v
      = shapeCast S1x128x1024 (decode q (extractAt ![0, 0] v inpos_S1x1_p0_0)) shapeCasts_S128x1024_S1x128x1024 := by
  unfold k0_pay39 decode; dsimp only; rw [shapeCast_shapeCast]

theorem pay49_kept (t : FVec F S128x1024 .f32) :
    k0_pay49 (shapeCast S1x128x1024 t shapeCasts_S128x1024_S1x128x1024) = shapeCast S1x128x1024 t shapeCasts_S128x1024_S1x128x1024 := by
  unfold k0_pay49; dsimp only; rw [shapeCast_shapeCast]

/-- The row of the scale buffer holds the tile's scale, however the stored row is spelt. -/
theorem row_ready (k : Fin 8) (i : Fin 2) (P : FVec F S1x128x1024 .f32 → FVec F S1x128 .f32) (hP : ∀ v, P v = k0_pay4 (k0_pay3 v))
    (ss : ssM.view.ty.Contents (Elt F)) (f : (slot2 xsM i).view.ty.Contents (Elt F)) (E : List (View.Piece (Elt F) S128x1024 .f32)) (t : FVec F S128x1024 .f32) :
    (row8 ssM k).view.read (Elt F) ((ssM.access (row8R k)).write (Elt F) ss (P (loaded i f E t)) Finset.univ) = rowOf t := by
  rw [store_row, hP, loaded_eq, pay4_pay3]; rfl

/-- The slot of the code buffer holds the tile's codes, however the stored codes are spelt. -/
theorem codes_ready (k : Fin 8) (i : Fin 2) (P : FVec F S1x128x1024 .f32 → IVec S1x128x1024 8) (hP : ∀ v, P v = k0_pay5 (k0_pay1 v) (k0_pay2 v))
    (cs : csM.view.ty.Contents (Elt F)) (f : (slot2 xsM i).view.ty.Contents (Elt F)) (E : List (View.Piece (Elt F) S128x1024 .f32)) (t : FVec F S128x1024 .f32) :
    (slot8 csM k).view.read (Elt F) ((csM.access (slot8R k)).write (Elt F) cs (P (loaded i f E t)) Finset.univ) = codesOf t := by
  rw [store_codes, hP, loaded_eq, pay1_cast, pay5_codes]; rfl

/-- A block of the result, filled by a copy of slot `i` of the output staging buffer after a store there: -/
theorem block_ready (k : Fin 8) (i : Fin 2) (o : (blk oM k).view.ty.Contents (Elt F)) (os : osM.view.ty.Contents (Elt F)) (w : FVec F S128x1024 .f32) :
    (blk oM k).view.read (Elt F) ((blk oM k).view.writes (Elt F) o [⟨Rect.whole S128x1024, (slot2 osM i).view.read (Elt F)
        ((osM.access (slot2R i)).write (Elt F) os (shapeCast S1x128x1024 w shapeCasts_S128x1024_S1x128x1024) Finset.univ)⟩]) = w :=
  (read_last_whole (blk oM k) o _ []).trans (by rw [store_tile, shapeCast_shapeCast])

/-- a tile loaded and stored as it is, however that is spelt; -/
theorem block_kept (k : Fin 8) (i j : Fin 2) (P : FVec F S1x128x1024 .f32 → FVec F S1x128x1024 .f32) (hP : ∀ v, P v = k0_pay49 v)
    (o : (blk oM k).view.ty.Contents (Elt F)) (os : osM.view.ty.Contents (Elt F))
    (f : (slot2 xsM j).view.ty.Contents (Elt F)) (E : List (View.Piece (Elt F) S128x1024 .f32)) (t : FVec F S128x1024 .f32) :
    (blk oM k).view.read (Elt F) ((blk oM k).view.writes (Elt F) o [⟨Rect.whole S128x1024, (slot2 osM i).view.read (Elt F)
        ((osM.access (slot2R i)).write (Elt F) os (P (loaded j f E t)) Finset.univ)⟩]) = t := by
  rw [hP, loaded_eq, pay49_kept]
  exact block_ready k i o os t

/-- codes received, decoded at the scale received, however that is spelt. -/
theorem block_decoded (k : Fin 8) (i : Fin 2) (P : IVec S1x128x1024 8 → FVec F S1x1 .f32 → FVec F S1x128x1024 .f32)
    (hP : ∀ q v, P q v = k0_pay39 q v) (h : ∀ a, (![k.val, 0] : Fin 2 → Nat) a + S1x1.size a ≤ S8x128.size a)
    (o : (blk oM k).view.ty.Contents (Elt F)) (os : osM.view.ty.Contents (Elt F))
    (fq : crM.view.ty.Contents (Elt F)) (fs : srM.view.ty.Contents (Elt F)) (t : FVec F S128x1024 .f32)
    (hq : (slot8 crM k).view.read (Elt F) fq = codesOf t) (hs : (row8 srM k).view.read (Elt F) fs = rowOf t) :
    (blk oM k).view.read (Elt F) ((blk oM k).view.writes (Elt F) o [⟨Rect.whole S128x1024, (slot2 osM i).view.read (Elt F)
        ((osM.access (slot2R i)).write (Elt F) os (P (crM.view.readAt (Elt F) (slot8R k).toLoadRect fq)
          (srM.view.readAt (Elt F) (Rect.unit (s := S8x128) ![k.val, 0] S1x1.size h).toLoadRect fs)) Finset.univ)⟩])
      = decode (codesOf t) (scaleOf t) := by
  rw [hP, load_codes crM k fq, pay39_decode, load_scale srM k h fs, hq, hs]
  exact block_ready k i o os _

end Pieces

end Cert.Swap

end
-- ==== Proof.Body.lean ====
module

public import proofs.«01_k».proof.Proof.Steps
public import proofs.«01_k».proof.Proof.Pieces

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Tactic

/-! ## What the body starts from and ends with -/

/-- A piece of memory on a device, with the contents `f` of its buffer. -/
abbrev at_ {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f
/-- One factor for each of the eight chunks. -/
abbrev each (Φ : Fin 8 → sProp 𝕄) : sProp 𝕄 := bigSep Finset.univ Φ

omit [FloatOps F] in
/-- The eight factors, written out. -/
theorem each_eq (Φ : Fin 8 → sProp 𝕄) :
    each Φ = iprop(Φ 0 ∗ Φ 1 ∗ Φ 2 ∗ Φ 3 ∗ Φ 4 ∗ Φ 5 ∗ Φ 6 ∗ Φ 7) :=
  (bigSep_eq_bigSepL_of_eq [0, 1, 2, 3, 4, 5, 6, 7] (by decide) (by decide) Φ)

omit [FloatOps F] in
/-- Pieces with any contents, their contents named. -/
theorem free_elim {sp : Space} {s : Shape} {e : EltTy} (c : Dev nD) (M : Memref sig .tc sp s e) :
    free (F := F) c M ⊢ iprop(∃ f, at_ c M f) := BI.Entails.refl _
theorem frees_elim {sp : Space} {s : Shape} {e : EltTy} (c : Dev nD) (M : Fin 8 → Memref sig .tc sp s e) :
    each (fun k => free (F := F) c (M k)) ⊢ iprop(∃ f : (k : Fin 8) → Buf (Elt F) ((M k).view.loc (c : Thread nD τ)), each fun k => at_ c (M k) (f k)) := by
  unfold each free
  haveI : ∀ k, Nonempty (Buf (Elt F) ((M k).view.loc (c : Thread nD τ))) := fun k => ⟨(M k).view.junk⟩
  exact BI.bigSep_exists_pi (Y := fun k => Buf (Elt F) ((M k).view.loc (c : Thread nD τ))) Finset.univ (fun k f => at_ c (M k) f)

omit [FloatOps F] in
theorem free_intro {sp : Space} {s : Shape} {e : EltTy} (c : Dev nD) (M : Memref sig .tc sp s e) {f : Buf (Elt F) (M.view.loc (c : Thread nD τ))} :
    (M.view.loc (c : Thread nD τ) ↦[M.view.set]{fullShare} f : sProp 𝕄) ⊢ free c M := by
  unfold free; iintro H; iexists f; iexact H
omit [FloatOps F] in
/-- Eight factors gathered. -/
theorem each_of (Φ : Fin 8 → sProp 𝕄) :
    iprop(Φ 0 ∗ Φ 1 ∗ Φ 2 ∗ Φ 3 ∗ Φ 4 ∗ Φ 5 ∗ Φ 6 ∗ Φ 7) ⊢ each Φ := Entails.of_eq (each_eq Φ).symm

/-- The two-slot buffers of the local copies and their semaphores at zero. -/
def stageBufs (c : Dev nD) : sProp 𝕄 :=
  iprop(free c (slot2 xsM 0) ∗ free c (slot2 xsM 1) ∗ free c (slot2 osM 0) ∗ free c (slot2 osM 1)
    ∗ semVal ((c : Thread nD τ), .dma ⟨1, by decide⟩) 0 ∗ semVal ((c : Thread nD τ), .dma ⟨2, by decide⟩) 0
    ∗ semVal ((c : Thread nD τ), .dma ⟨3, by decide⟩) 0 ∗ semVal ((c : Thread nD τ), .dma ⟨4, by decide⟩) 0)

/-- The buffers of a device's own codes, scales, and those it receives. -/
def wireBufs (c : Dev nD) : sProp 𝕄 :=
  iprop(each (fun k => free c (slot8 csM k)) ∗ each (fun k => free c (row8 ssM k)))
def landBufs (c : Dev nD) : sProp 𝕄 :=
  iprop(each (fun k => free c (slot8 crM k)) ∗ each (fun k => free c (row8 srM k)))

/-- The positions of a device on its copies' cells. -/
def places (c : Dev nD) : sProp 𝕄 :=
  iprop(each (fun k => atPos ER (kcell (c, .inr (0, k))) 0 ∅ 0) ∗ each (fun k => atPos ER (kcell (c, .inr (1, k))) 0 ∅ 0)
    ∗ each (fun k => atPos ER (kcell (c, .inr (2, k))) 0 ∅ 0) ∗ each (fun k => atPos ER (kcell (c, .inr (3, k))) 0 ∅ 0))
/-- The tokens of its copies. -/
def tokens (c : Dev nD) : sProp 𝕄 := iprop(each (fun k => toks c 0 1 k) ∗ each (fun k => toks c 2 3 k))
/-- The credits of what it is to receive. -/
def credits (sw : Bool) (c : Dev nD) : sProp 𝕄 :=
  if sw then iprop(each (fun k => cred (tallyAt (kcell (c, .inr (1, k))) () Nc)) ∗ each (fun k => cred (tallyAt (kcell (c, .inr (3, k))) () Nr)))
  else iprop(emp)
/-- The counters of its copies' cells, at zero. -/
def zeros (c : Dev nD) : sProp 𝕄 :=
  iprop(each (fun k => semVal (kcell (c, .inr (0, k))) 0) ∗ each (fun k => semVal (kcell (c, .inr (1, k))) 0)
    ∗ each (fun k => semVal (kcell (c, .inr (2, k))) 0) ∗ each (fun k => semVal (kcell (c, .inr (3, k))) 0))

/-- What the `k`-th row block of the result is to hold. -/
def res (sw : Bool) (X : XT F) (c : Dev nD) (k : Fin 8) : FVec F S128x1024 .f32 :=
  if sw then decode (codesOf (tile (X (partner c)) k)) (scaleOf (tile (X (partner c)) k)) else tile (X c) k

/-- The start: what is shared, what is owed, the handshake, the argument, the result's room, the buffers. -/
def bodyStart (sw : Bool) (X : XT F) (K : Dev nD × Cells → ℕ) (c : Dev nD) (P : Buf (Elt F) (piM.view.loc (c : Thread nD τ))) (W : Waits sig Unit) : sProp 𝕄 :=
  iprop(levAts L lv ∗ records sw X K ∗ owes (c : Thread nD τ) (O₀ sw c) W
    ∗ dutyTok ER (kcell (partner c, .inl ())) 0 () ∗ due c (.inl ())
    ∗ at_ c piM P ∗ each (fun k => at_ c (blk xM k) (X c)) ∗ each (fun k => free c (blk oM k))
    ∗ stageBufs c ∗ wireBufs c ∗ landBufs c ∗ places c ∗ tokens c ∗ credits sw c)

/-- The end: nothing owed, every row block of the result as it is to be, everything else given back. -/
def bodyEnd (sw : Bool) (X : XT F) (c : Dev nD) (P : Buf (Elt F) (piM.view.loc (c : Thread nD τ))) : sProp 𝕄 :=
  iprop(∃ W : Waits sig Unit, owes (c : Thread nD τ) 0 W ∗ semVal (barCell c) 0
    ∗ at_ c piM P ∗ each (fun k => at_ c (blk xM k) (X c)) ∗ each (fun k => own c (blk oM k) (res sw X c k))
    ∗ stageBufs c ∗ wireBufs c ∗ landBufs c ∗ zeros c)

/-! ## The handshake -/

/-- The handshake: the partner's receive buffers come with it if the two exchange. -/
theorem handshake (sw : Bool) (X : XT F) (K : Dev nD × Cells → ℕ) (c n : Dev nD) (hn : n = partner c)
    {α : Type} {Q : α → sProp 𝕄} {kt : PUnit → Prog (TpuEff nD τ sig (Elt F) Λ₀ .tc) α} (W : Waits sig Unit) :
    iprop(levAts L lv ∗ records sw X K ∗ owes (c : Thread nD τ) (O₀ sw c) W ∗ dutyTok ER (kcell (partner c, .inl ())) 0 () ∗ due c (.inl ())
        ∗ (if sw then landBufs c else iprop(emp)))
      ⊢ iprop((((∃ W', owes (c : Thread nD τ) (O₁ sw c) W') ∗ semVal (barCell c) 0 ∗ (if sw then landBufs (partner c) else iprop(emp)))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal n barS 1) fun _ => .op (.semWait barS 1) kt) Q) := by
  subst hn
  iintro ⟨#Hlev, #HR, HO, Ht, Hd, Hb⟩ Hk
  ihave #HI := (inv_at sw X K (partner c, .inl ())) $$ HR
  ihave #Hr := (reached_at sw X K (partner c, .inl ())) $$ HR
  iapply (Rounds.wp_signal 𝒱₀ ER (Rd sw X) (c : Thread nD τ) none (dst := (partner c : Thread nD τ)) (κ := K (partner c, .inl ()))
      (d := ()) (by rw [duties_cell sw X (partner c) (.inl ()) trivial]; exact Finset.mem_singleton_self _)
      ((amount_cell sw X (partner c) (.inl ())).trans (by decide)) () (O₁ sw c) rfl) $$ [HO Ht Hb]
  · isplitr; · iexact HI
    isplitl [HO]; · iexact HO
    isplitl [Ht]; · iexact Ht
    isplitl [Hb]
    · rw [show (Rd (F := F) sw X).payload (kcell (partner c, .inl ())) 0 () = pay sw X (partner c) (.inl ()) from payload_cell sw X (partner c) (.inl ())]
      unfold pay; dsimp only; unfold barPay landBufs each; rw [partner_partner]; iexact Hb
    iexact Hr
  iintro HO
  iapply (wp_wait_cell sw X K c (.inl ()) trivial (wpE_semWait_eq 𝒱₀ (c : Thread nD τ) none Set.univ) (O₁ sw c) W) $$ [Hd HO]
  · isplitr; · iexact HR
    isplitl [Hd]; · iexact Hd
    isplitl [HO]; · iexact HO
    iapply (mayWait_bar sw c); iexact Hlev
  iintro ⟨HO, Hz, Hp⟩
  iapply Hk
  isplitl [HO]; · iexists _; iexact HO
  isplitl [Hz]; · iexact Hz
  unfold pay; dsimp only; unfold barPay landBufs each; iexact Hp

/-! ## Which of the two branches is taken -/

/-- The permutation: the two blocks exchanged, or kept. -/
def table (sw : Bool) (i : S2.Idx) : BitVec 32 := if sw then 1#32 - BitVec.ofNat 32 (i 0).val else BitVec.ofNat 32 (i 0).val

omit [FloatOps F] in
/-- The word a device reads of the permutation is the one at its place along the first mesh axis. -/
theorem word_at (sw : Bool) (c : Dev nD) {P : Buf (Elt F) (piM.view.loc (c : Thread nD τ))} (hP : ∀ i : S2.Idx, P i = table sw i)
    {h : ∀ a, k0_off1 c a + S1.size a ≤ S2.size a} (x : (Rect.unit (s := S2) (k0_off1 c) S1.size h).shape.Idx) :
    (piM.view.readAt (Elt F) (Rect.unit (s := S2) (k0_off1 c) S1.size h).toLoadRect P x : BitVec 32)
      = if sw then 1#32 - BitVec.ofNat 32 (c.val / 8) else BitVec.ofNat 32 (c.val / 8) := by
  have hi : (piM.view.emb ((Rect.unit (s := S2) (k0_off1 c) S1.size h).toLoadRect.idx x) 0).val = c.val / 8 := by
    have h1 : (x 0).val < 1 := (x 0).isLt
    have h0 : k0_off1 c 0 = c.val / 8 := congrFun (k0_off1_eq c) 0
    show k0_off1 c 0 + 1 * (x 0).val = c.val / 8
    omega
  refine (hP _).trans ?_
  unfold table; rw [hi]

omit [FloatOps F] in
theorem moves (sw : Bool) (c : Dev nD) {P : Buf (Elt F) (piM.view.loc (c : Thread nD τ))} (hP : ∀ i : S2.Idx, P i = table sw i)
    {h : ∀ a, k0_off1 c a + S1.size a ≤ S2.size a} (x : (Rect.unit (s := S2) (k0_off1 c) S1.size h).shape.Idx) :
    Scalar.cmpi .ne (piM.view.readAt (Elt F) (Rect.unit (s := S2) (k0_off1 c) S1.size h).toLoadRect P x : BitVec 32)
      (Scalar.remsi (Scalar.divsi (Dev.word c) 8#32) 2#32) = if sw then 1#1 else 0#1 := by
  rw [word_at sw c hP x]
  clear hP x; clear P; clear h
  revert sw c; decide

/-- The exchanging branch is taken exactly when the blocks are exchanged; -/
theorem taken {a : BitVec 1} (sw : Bool) (h : a = if sw then 1#1 else 0#1) :
    Scalar.cmpi .ne (Scalar.extui a : BitVec 32) 0#32 = if sw then 1#1 else 0#1 := by
  subst h; revert sw; decide
/-- the other one otherwise. -/
theorem taken_not {a : BitVec 1} (sw : Bool) (h : a = if sw then 1#1 else 0#1) :
    Scalar.cmpi .ne (Scalar.extui (Scalar.xori a 1#1) : BitVec 32) 0#32 = if sw then 0#1 else 1#1 := by
  subst h; revert sw; decide

theorem zero_ne {a : BitVec 1} (h : a = 0#1) : ¬ a = 1#1 := by subst h; decide

/-- Without an exchange the cells of the copies are done with at once. -/
theorem close_all (X : XT F) (K : Dev nD × Cells → ℕ) (c : Dev nD) :
    iprop(records false X K ∗ places c) ⊢ |={Set.univ}=> (zeros c : sProp 𝕄) := by
  have h : ∀ i : Fin 4, iprop(records false X K ∗ each fun k => atPos ER (kcell (c, .inr (i, k))) 0 ∅ 0)
      ⊢ |={Set.univ}=> (each fun k => semVal (kcell (c, .inr (i, k))) 0 : sProp 𝕄) := fun i =>
    (bigSep_with_persistent fun k _ => close_dead false X K c (.inr (i, k)) (fun h => Bool.noConfusion h)).trans (bigSep_fupd _ _)
  unfold places zeros
  iintro ⟨#HR, H0, H1, H2, H3⟩
  imod (h 0) $$ [H0] with Z0
  · iframe HR H0
  imod (h 1) $$ [H1] with Z1
  · iframe HR H1
  imod (h 2) $$ [H2] with Z2
  · iframe HR H2
  imod (h 3) $$ [H3] with Z3
  · iframe HR H3
  imodintro
  iframe Z0 Z1 Z2 Z3

abbrev c127 : F .f32 := Scalar.ofBits .f32 0x42FE0000#32
abbrev cmin : F .f32 := Scalar.ofBits .f32 0x0DA24260#32

/-- The tickets of a device's copies, from its positions, its tokens and its partner's receive buffers. -/
theorem scale_tickets (c : Dev nD) :
    iprop((each fun k => atPos ER (kcell (c, .inr (2, k))) 0 ∅ 0) ∗ (each fun k => toks c 2 3 k) ∗ each fun k => free (F := F) (partner c) (row8 srM k))
      ⊢ each fun k => scaleTicket c k := by
  unfold each scaleTicket; rw [bigSep_sep', bigSep_sep']
theorem code_tickets (c : Dev nD) :
    iprop((each fun k => atPos ER (kcell (c, .inr (0, k))) 0 ∅ 0) ∗ (each fun k => toks c 0 1 k) ∗ each fun k => free (F := F) (partner c) (slot8 crM k))
      ⊢ each fun k => codeTicket c k := by
  unfold each codeTicket; rw [bigSep_sep', bigSep_sep']
omit [FloatOps F] in
/-- What it needs to wait for what it receives. -/
theorem dues (c : Dev nD) (i : Fin 4) :
    iprop((each fun k => atPos ER (kcell (c, .inr (i, k))) 0 ∅ 0) ∗ each fun k => cred (tallyAt (kcell (c, .inr (i, k))) () (amt (.inr (i, k)))))
      ⊢ each fun k => (due c (.inr (i, k)) : sProp 𝕄) := by
  unfold each due; rw [bigSep_sep']

set_option maxRecDepth 65536 in
set_option maxHeartbeats 8000000 in
/-- The body where the blocks stay: every chunk is copied through the staging buffers. -/
theorem body_kept (X : XT F) (K : Dev nD × Cells → ℕ) (c : Dev nD) (P : Buf (Elt F) (piM.view.loc (c : Thread nD τ))) (hP : ∀ i : S2.Idx, P i = table false i) (W : Waits sig Unit) (Kt : PUnit → sProp 𝕄) :
    iprop(bodyStart false X K c P W ∗ (bodyEnd false X c P -∗ Kt ⟨⟩))
    ⊢ wp frame (wpE (defs₀ (F := F)) 𝒱₀ (c : Thread nD τ) none) Set.univ
      (cc0_body xM (Memref.isWhole_whole _) piM (Memref.isWhole_whole _) oM (Memref.isWhole_whole _) xsM (Memref.isWhole_whole _) osM (Memref.isWhole_whole _) csM (Memref.isWhole_whole _) crM (Memref.isWhole_whole _) ssM (Memref.isWhole_whole _) srM (Memref.isWhole_whole _) cc0_scratch6 cc0_scratch7 cc0_scratch8 cc0_scratch9 cc0_scratch10 cc0_scratch11) Kt := by
  simp only [cc0_body_eq_skeleton]; unfold cc0_body_skel
  simp only [semSignalWord, semWaitWord, Prog.lift, Prog.bind_op, Prog.bind_ret, Prog.pure_eq_ret, wp_deviceId]
  unfold bodyStart
  iintro ⟨⟨#Hlev, #HR, HO, Ht, Hd, Hpi, Hx, Ho, Hstage, Hwire, Hland, Hplaces, -, -⟩, HK⟩
  iapply (handshake false X K c _ (Fin.ext (k0_dev1_eq c)) W) $$ [HO Ht Hd]
  · iframe Hlev HR HO Ht Hd
    iempintro
  iintro ⟨⟨%W', HO⟩, HzB, -⟩
  rw [show O₁ false c = 0 from rfl]
  sl_exec
  rw [if_neg]
  rotate_left
  · exact zero_ne (taken false (moves false c hP _))
  rw [if_pos]
  rotate_left
  · exact taken_not false (moves false c hP _)
  ihave Hx := (Entails.of_eq (each_eq _)) $$ Hx
  icases Hx with ⟨Hx0, Hx1, Hx2, Hx3, Hx4, Hx5, Hx6, Hx7⟩
  ihave Ho := (frees_elim c _) $$ Ho
  icases Ho with ⟨%o, Ho⟩
  ihave Ho := (Entails.of_eq (each_eq _)) $$ Ho
  icases Ho with ⟨Ho0, Ho1, Ho2, Ho3, Ho4, Ho5, Ho6, Ho7⟩
  unfold stageBufs
  icases Hstage with ⟨Hxs0, Hxs1, Hos0, Hos1, Hl0, Hl1, Hst0, Hst1⟩
  ihave Hxs0 := (free_elim c _) $$ Hxs0
  icases Hxs0 with ⟨%xs0, Hxs0⟩
  ihave Hxs1 := (free_elim c _) $$ Hxs1
  icases Hxs1 with ⟨%xs1, Hxs1⟩
  ihave Hos0 := (free_elim c _) $$ Hos0
  icases Hos0 with ⟨%os0, Hos0⟩
  ihave Hos1 := (free_elim c _) $$ Hos1
  icases Hos1 with ⟨%os1, Hos1⟩
  sl_exec
  ihave Ho0 := (own_of c (blk oM 0) (tile (X c) 0)) $$ [Ho0]
  · isplitl [Ho0]; · iexact Ho0
    ipureintro; exact block_kept 0 0 0 (fun v => k0_pay49 v) (fun _ => rfl) (o 0) _ (slot2 xsM 0).view.junk _ (tile (X c) 0)
  ihave Ho1 := (own_of c (blk oM 1) (tile (X c) 1)) $$ [Ho1]
  · isplitl [Ho1]; · iexact Ho1
    ipureintro; exact block_kept 1 1 1 (fun v => k0_pay50 v) (fun _ => rfl) (o 1) _ (slot2 xsM 1).view.junk _ (tile (X c) 1)
  ihave Ho2 := (own_of c (blk oM 2) (tile (X c) 2)) $$ [Ho2]
  · isplitl [Ho2]; · iexact Ho2
    ipureintro; exact block_kept 2 0 0 (fun v => k0_pay51 v) (fun _ => rfl) (o 2) _ (slot2 xsM 0).view.junk _ (tile (X c) 2)
  ihave Ho3 := (own_of c (blk oM 3) (tile (X c) 3)) $$ [Ho3]
  · isplitl [Ho3]; · iexact Ho3
    ipureintro; exact block_kept 3 1 1 (fun v => k0_pay53 (k0_pay52 v)) (fun _ => rfl) (o 3) _ (slot2 xsM 1).view.junk _ (tile (X c) 3)
  ihave Ho4 := (own_of c (blk oM 4) (tile (X c) 4)) $$ [Ho4]
  · isplitl [Ho4]; · iexact Ho4
    ipureintro; exact block_kept 4 0 0 (fun v => k0_pay54 v) (fun _ => rfl) (o 4) _ (slot2 xsM 0).view.junk _ (tile (X c) 4)
  ihave Ho5 := (own_of c (blk oM 5) (tile (X c) 5)) $$ [Ho5]
  · isplitl [Ho5]; · iexact Ho5
    ipureintro; exact block_kept 5 1 1 (fun v => k0_pay55 v) (fun _ => rfl) (o 5) _ (slot2 xsM 1).view.junk _ (tile (X c) 5)
  ihave Ho6 := (own_of c (blk oM 6) (tile (X c) 6)) $$ [Ho6]
  · isplitl [Ho6]; · iexact Ho6
    ipureintro; exact block_kept 6 0 0 (fun v => k0_pay56 v) (fun _ => rfl) (o 6) _ (slot2 xsM 0).view.junk _ (tile (X c) 6)
  ihave Ho7 := (own_of c (blk oM 7) (tile (X c) 7)) $$ [Ho7]
  · isplitl [Ho7]; · iexact Ho7
    ipureintro; exact block_kept 7 1 1 (fun v => k0_pay57 v) (fun _ => rfl) (o 7) _ (slot2 xsM 1).view.junk _ (tile (X c) 7)
  imod (close_all X K c) $$ [Hplaces] with Hz
  · iframe HR Hplaces
  rw [wp_ret]; imodintro
  iapply HK
  unfold bodyEnd
  iexists _
  isplitl [HO]; · iexact HO
  isplitl [HzB]; · iexact HzB
  isplitl [Hpi]; · iexact Hpi
  isplitl [Hx0 Hx1 Hx2 Hx3 Hx4 Hx5 Hx6 Hx7]
  · iapply (each_of _)
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Ho0 Ho1 Ho2 Ho3 Ho4 Ho5 Ho6 Ho7]
  · iapply (each_of _)
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hxs0 Hxs1 Hos0 Hos1 Hl0 Hl1 Hst0 Hst1]
  · unfold stageBufs
    isplitl [Hxs0]; · iapply (free_intro c (slot2 xsM 0)); iexact Hxs0
    isplitl [Hxs1]; · iapply (free_intro c (slot2 xsM 1)); iexact Hxs1
    isplitl [Hos0]; · iapply (free_intro c (slot2 osM 0)); iexact Hos0
    isplitl [Hos1]; · iapply (free_intro c (slot2 osM 1)); iexact Hos1
    iframe Hl0 Hl1 Hst0 Hst1
  isplitl [Hwire]; · iexact Hwire
  isplitl [Hland]; · iexact Hland
  iexact Hz

set_option maxRecDepth 65536 in
set_option maxHeartbeats 8000000 in
/-- The body where the blocks are exchanged: each chunk is encoded and sent, the partner's received and decoded. -/
theorem body_swap (X : XT F) (K : Dev nD × Cells → ℕ) (c : Dev nD) (P : Buf (Elt F) (piM.view.loc (c : Thread nD τ))) (hP : ∀ i : S2.Idx, P i = table true i) (W : Waits sig Unit) (Kt : PUnit → sProp 𝕄) :
    iprop(bodyStart true X K c P W ∗ (bodyEnd true X c P -∗ Kt ⟨⟩))
    ⊢ wp frame (wpE (defs₀ (F := F)) 𝒱₀ (c : Thread nD τ) none) Set.univ
      (cc0_body xM (Memref.isWhole_whole _) piM (Memref.isWhole_whole _) oM (Memref.isWhole_whole _) xsM (Memref.isWhole_whole _) osM (Memref.isWhole_whole _) csM (Memref.isWhole_whole _) crM (Memref.isWhole_whole _) ssM (Memref.isWhole_whole _) srM (Memref.isWhole_whole _) cc0_scratch6 cc0_scratch7 cc0_scratch8 cc0_scratch9 cc0_scratch10 cc0_scratch11) Kt := by
  simp only [cc0_body_eq_skeleton]; unfold cc0_body_skel
  simp only [semSignalWord, semWaitWord, Prog.lift, Prog.bind_op, Prog.bind_ret, Prog.pure_eq_ret, wp_deviceId]
  unfold bodyStart landBufs wireBufs places tokens credits
  rw [if_pos rfl]
  iintro ⟨⟨#Hlev, #HR, HO, Ht, Hd, Hpi, Hx, Ho, Hstage, ⟨Hcs, Hss⟩, Hland, ⟨Hp0, Hp1, Hp2, Hp3⟩, ⟨Hk0, Hk2⟩, ⟨Hc1, Hc3⟩⟩, HK⟩
  iapply (handshake true X K c _ (Fin.ext (k0_dev1_eq c)) W) $$ [HO Ht Hd Hland]
  · iframe Hlev HR HO Ht Hd
    rw [if_pos rfl]; unfold landBufs; iexact Hland
  rw [if_pos rfl]
  unfold landBufs
  iintro ⟨⟨%W', HO⟩, HzB, ⟨Hcr, Hsr⟩⟩
  rw [show O₁ true c = owedFrom c 0 from rfl]
  have hmw := fun s hs n => mayWait_low (F := F) c s hs n
  sl_exec
  rw [if_pos]
  rotate_left
  · exact taken true (moves true c hP _)
  ihave Hx := (Entails.of_eq (each_eq _)) $$ Hx
  icases Hx with ⟨Hx0, Hx1, Hx2, Hx3, Hx4, Hx5, Hx6, Hx7⟩
  ihave Ho := (frees_elim c _) $$ Ho
  icases Ho with ⟨%o, Ho⟩
  ihave Ho := (Entails.of_eq (each_eq _)) $$ Ho
  icases Ho with ⟨Ho0, Ho1, Ho2, Ho3, Ho4, Ho5, Ho6, Ho7⟩
  ihave Hcs := (frees_elim c _) $$ Hcs
  icases Hcs with ⟨%cs, Hcs⟩
  ihave Hcs := (Entails.of_eq (each_eq _)) $$ Hcs
  icases Hcs with ⟨Hcs0, Hcs1, Hcs2, Hcs3, Hcs4, Hcs5, Hcs6, Hcs7⟩
  ihave Hss := (frees_elim c _) $$ Hss
  icases Hss with ⟨%ss, Hss⟩
  ihave Hss := (Entails.of_eq (each_eq _)) $$ Hss
  icases Hss with ⟨Hss0, Hss1, Hss2, Hss3, Hss4, Hss5, Hss6, Hss7⟩
  ihave Ht := (scale_tickets c) $$ [Hp2 Hk2 Hsr]
  · iframe Hp2 Hk2 Hsr
  ihave Ht := (Entails.of_eq (each_eq _)) $$ Ht
  icases Ht with ⟨Ht0, Ht1, Ht2, Ht3, Ht4, Ht5, Ht6, Ht7⟩
  ihave Hu := (code_tickets c) $$ [Hp0 Hk0 Hcr]
  · iframe Hp0 Hk0 Hcr
  ihave Hu := (Entails.of_eq (each_eq _)) $$ Hu
  icases Hu with ⟨Hu0, Hu1, Hu2, Hu3, Hu4, Hu5, Hu6, Hu7⟩
  ihave Hr := (dues c 3) $$ [Hp3 Hc3]
  · iframe Hp3; iexact Hc3
  ihave Hr := (Entails.of_eq (each_eq _)) $$ Hr
  icases Hr with ⟨Hr0, Hr1, Hr2, Hr3, Hr4, Hr5, Hr6, Hr7⟩
  ihave Hq := (dues c 1) $$ [Hp1 Hc1]
  · iframe Hp1; iexact Hc1
  ihave Hq := (Entails.of_eq (each_eq _)) $$ Hq
  icases Hq with ⟨Hq0, Hq1, Hq2, Hq3, Hq4, Hq5, Hq6, Hq7⟩
  unfold stageBufs
  icases Hstage with ⟨Hxs0, Hxs1, Hos0, Hos1, Hl0, Hl1, Hst0, Hst1⟩
  ihave Hxs0 := (free_elim c _) $$ Hxs0
  icases Hxs0 with ⟨%xs0, Hxs0⟩
  ihave Hxs1 := (free_elim c _) $$ Hxs1
  icases Hxs1 with ⟨%xs1, Hxs1⟩
  ihave Hos0 := (free_elim c _) $$ Hos0
  icases Hos0 with ⟨%os0, Hos0⟩
  ihave Hos1 := (free_elim c _) $$ Hos1
  icases Hos1 with ⟨%os1, Hos1⟩
  sl_exec
  iapply (wp_send_scale X K c _ (Fin.ext (k0_dev2_eq c)) 0 _) $$ [Hss0 HO Ht0]
  · iframe HR Hss0 HO Ht0
    ipureintro; exact row_ready 0 0 (fun v => k0_pay4 (k0_pay3 v)) (fun _ => rfl) _ (slot2 xsM 0).view.junk _ (tile (X c) 0)
  iintro ⟨Ha0, HO⟩
  sl_exec
  iapply (wp_send_code X K c _ (Fin.ext (k0_dev3_eq c)) 0 _) $$ [Hcs0 HO Hu0]
  · iframe HR Hcs0 HO Hu0
    ipureintro; exact codes_ready 0 0 (fun v => k0_pay5 (k0_pay1 v) (k0_pay2 v)) (fun _ => rfl) _ (slot2 xsM 0).view.junk _ (tile (X c) 0)
  iintro ⟨Hb0, HO⟩
  sl_exec
  iapply (wp_send_scale X K c _ (Fin.ext (k0_dev4_eq c)) 1 _) $$ [Hss1 HO Ht1]
  · iframe HR Hss1 HO Ht1
    ipureintro; exact row_ready 1 1 (fun v => k0_pay9 (k0_pay8 v)) (fun _ => rfl) _ (slot2 xsM 1).view.junk _ (tile (X c) 1)
  iintro ⟨Ha1, HO⟩
  sl_exec
  iapply (wp_send_code X K c _ (Fin.ext (k0_dev5_eq c)) 1 _) $$ [Hcs1 HO Hu1]
  · iframe HR Hcs1 HO Hu1
    ipureintro; exact codes_ready 1 1 (fun v => k0_pay10 (k0_pay6 v) (k0_pay7 v)) (fun _ => rfl) _ (slot2 xsM 1).view.junk _ (tile (X c) 1)
  iintro ⟨Hb1, HO⟩
  sl_exec
  iapply (wp_send_scale X K c _ (Fin.ext (k0_dev6_eq c)) 2 _) $$ [Hss2 HO Ht2]
  · iframe HR Hss2 HO Ht2
    ipureintro; exact row_ready 2 0 (fun v => k0_pay14 (k0_pay13 v)) (fun _ => rfl) _ (slot2 xsM 0).view.junk _ (tile (X c) 2)
  iintro ⟨Ha2, HO⟩
  sl_exec
  iapply (wp_send_code X K c _ (Fin.ext (k0_dev7_eq c)) 2 _) $$ [Hcs2 HO Hu2]
  · iframe HR Hcs2 HO Hu2
    ipureintro; exact codes_ready 2 0 (fun v => k0_pay15 (k0_pay11 v) (k0_pay12 v)) (fun _ => rfl) _ (slot2 xsM 0).view.junk _ (tile (X c) 2)
  iintro ⟨Hb2, HO⟩
  sl_exec
  iapply (wp_send_scale X K c _ (Fin.ext (k0_dev8_eq c)) 3 _) $$ [Hss3 HO Ht3]
  · iframe HR Hss3 HO Ht3
    ipureintro; exact row_ready 3 1 (fun v => k0_pay18 (k0_pay17 v)) (fun _ => rfl) _ (slot2 xsM 1).view.junk _ (tile (X c) 3)
  iintro ⟨Ha3, HO⟩
  sl_exec
  iapply (wp_send_code X K c _ (Fin.ext (k0_dev9_eq c)) 3 _) $$ [Hcs3 HO Hu3]
  · iframe HR Hcs3 HO Hu3
    ipureintro; exact codes_ready 3 1 (fun v => k0_pay19 (k0_pay16 v) (k0_pay17 v)) (fun _ => rfl) _ (slot2 xsM 1).view.junk _ (tile (X c) 3)
  iintro ⟨Hb3, HO⟩
  sl_exec
  iapply (wp_send_scale X K c _ (Fin.ext (k0_dev10_eq c)) 4 _) $$ [Hss4 HO Ht4]
  · iframe HR Hss4 HO Ht4
    ipureintro; exact row_ready 4 0 (fun v => k0_pay23 (k0_pay21 v) c127) (fun _ => rfl) _ (slot2 xsM 0).view.junk _ (tile (X c) 4)
  iintro ⟨Ha4, HO⟩
  sl_exec
  iapply (wp_send_code X K c _ (Fin.ext (k0_dev11_eq c)) 4 _) $$ [Hcs4 HO Hu4]
  · iframe HR Hcs4 HO Hu4
    ipureintro; exact codes_ready 4 0 (fun v => k0_pay24 (k0_pay20 v) (k0_pay21 v) c127) (fun _ => rfl) _ (slot2 xsM 0).view.junk _ (tile (X c) 4)
  iintro ⟨Hb4, HO⟩
  sl_exec
  iapply (wp_send_scale X K c _ (Fin.ext (k0_dev12_eq c)) 5 _) $$ [Hss5 HO Ht5]
  · iframe HR Hss5 HO Ht5
    ipureintro; exact row_ready 5 1 (fun v => k0_pay28 (k0_pay26 v)) (fun _ => rfl) _ (slot2 xsM 1).view.junk _ (tile (X c) 5)
  iintro ⟨Ha5, HO⟩
  sl_exec
  iapply (wp_send_code X K c _ (Fin.ext (k0_dev13_eq c)) 5 _) $$ [Hcs5 HO Hu5]
  · iframe HR Hcs5 HO Hu5
    ipureintro; exact codes_ready 5 1 (fun v => k0_pay29 (k0_pay25 v) (k0_pay26 v)) (fun _ => rfl) _ (slot2 xsM 1).view.junk _ (tile (X c) 5)
  iintro ⟨Hb5, HO⟩
  sl_exec
  iapply (wp_send_scale X K c _ (Fin.ext (k0_dev14_eq c)) 6 _) $$ [Hss6 HO Ht6]
  · iframe HR Hss6 HO Ht6
    ipureintro; exact row_ready 6 0 (fun v => k0_pay33 (k0_pay31 v) cmin) (fun _ => rfl) _ (slot2 xsM 0).view.junk _ (tile (X c) 6)
  iintro ⟨Ha6, HO⟩
  sl_exec
  iapply (wp_send_code X K c _ (Fin.ext (k0_dev15_eq c)) 6 _) $$ [Hcs6 HO Hu6]
  · iframe HR Hcs6 HO Hu6
    ipureintro; exact codes_ready 6 0 (fun v => k0_pay34 (k0_pay30 v) (k0_pay31 v) cmin) (fun _ => rfl) _ (slot2 xsM 0).view.junk _ (tile (X c) 6)
  iintro ⟨Hb6, HO⟩
  sl_exec
  iapply (wp_send_scale X K c _ (Fin.ext (k0_dev16_eq c)) 7 _) $$ [Hss7 HO Ht7]
  · iframe HR Hss7 HO Ht7
    ipureintro; exact row_ready 7 1 (fun v => k0_pay37 v) (fun _ => rfl) _ (slot2 xsM 1).view.junk _ (tile (X c) 7)
  iintro ⟨Ha7, HO⟩
  sl_exec
  iapply (wp_send_code X K c _ (Fin.ext (k0_dev17_eq c)) 7 _) $$ [Hcs7 HO Hu7]
  · iframe HR Hcs7 HO Hu7
    ipureintro; exact codes_ready 7 1 (fun v => k0_pay38 (k0_pay35 v) (k0_pay36 v)) (fun _ => rfl) _ (slot2 xsM 1).view.junk _ (tile (X c) 7)
  iintro ⟨Hb7, HO⟩
  rw [show owedFrom c (2 * (7 : Fin 8).val + 2) = 0 from owedFrom_end c]
  sl_exec
  iapply (wp_landed_scale X K c 0 _) $$ [Hr0 HO]
  · iframe HR Hr0 HO
  iintro ⟨HO, Hzr0, %fs0, %hs0, Hsr0⟩
  sl_exec
  iapply (wp_landed_codes X K c 0 _) $$ [Hq0 HO]
  · iframe HR Hq0 HO
  iintro ⟨HO, Hzq0, %fq0, %hq0, Hcr0⟩
  sl_exec
  iapply (wp_landed_scale X K c 1 _) $$ [Hr1 HO]
  · iframe HR Hr1 HO
  iintro ⟨HO, Hzr1, %fs1, %hs1, Hsr1⟩
  sl_exec
  iapply (wp_landed_codes X K c 1 _) $$ [Hq1 HO]
  · iframe HR Hq1 HO
  iintro ⟨HO, Hzq1, %fq1, %hq1, Hcr1⟩
  sl_exec
  iapply (wp_landed_scale X K c 2 _) $$ [Hr2 HO]
  · iframe HR Hr2 HO
  iintro ⟨HO, Hzr2, %fs2, %hs2, Hsr2⟩
  sl_exec
  iapply (wp_landed_codes X K c 2 _) $$ [Hq2 HO]
  · iframe HR Hq2 HO
  iintro ⟨HO, Hzq2, %fq2, %hq2, Hcr2⟩
  sl_exec
  iapply (wp_landed_scale X K c 3 _) $$ [Hr3 HO]
  · iframe HR Hr3 HO
  iintro ⟨HO, Hzr3, %fs3, %hs3, Hsr3⟩
  sl_exec
  iapply (wp_landed_codes X K c 3 _) $$ [Hq3 HO]
  · iframe HR Hq3 HO
  iintro ⟨HO, Hzq3, %fq3, %hq3, Hcr3⟩
  sl_exec
  iapply (wp_landed_scale X K c 4 _) $$ [Hr4 HO]
  · iframe HR Hr4 HO
  iintro ⟨HO, Hzr4, %fs4, %hs4, Hsr4⟩
  sl_exec
  iapply (wp_landed_codes X K c 4 _) $$ [Hq4 HO]
  · iframe HR Hq4 HO
  iintro ⟨HO, Hzq4, %fq4, %hq4, Hcr4⟩
  sl_exec
  iapply (wp_landed_scale X K c 5 _) $$ [Hr5 HO]
  · iframe HR Hr5 HO
  iintro ⟨HO, Hzr5, %fs5, %hs5, Hsr5⟩
  sl_exec
  iapply (wp_landed_codes X K c 5 _) $$ [Hq5 HO]
  · iframe HR Hq5 HO
  iintro ⟨HO, Hzq5, %fq5, %hq5, Hcr5⟩
  sl_exec
  iapply (wp_landed_scale X K c 6 _) $$ [Hr6 HO]
  · iframe HR Hr6 HO
  iintro ⟨HO, Hzr6, %fs6, %hs6, Hsr6⟩
  sl_exec
  iapply (wp_landed_codes X K c 6 _) $$ [Hq6 HO]
  · iframe HR Hq6 HO
  iintro ⟨HO, Hzq6, %fq6, %hq6, Hcr6⟩
  sl_exec
  iapply (wp_landed_scale X K c 7 _) $$ [Hr7 HO]
  · iframe HR Hr7 HO
  iintro ⟨HO, Hzr7, %fs7, %hs7, Hsr7⟩
  sl_exec
  iapply (wp_landed_codes X K c 7 _) $$ [Hq7 HO]
  · iframe HR Hq7 HO
  iintro ⟨HO, Hzq7, %fq7, %hq7, Hcr7⟩
  sl_exec
  iapply (wp_sent_scale X K c 0 _) $$ [Ha0 HO]
  · iframe HR Ha0 HO
  iintro ⟨HO, Hza0, Hss0⟩
  sl_exec
  iapply (wp_sent_codes X K c 0 _) $$ [Hb0 HO]
  · iframe HR Hb0 HO
  iintro ⟨HO, Hzb0, Hcs0⟩
  sl_exec
  iapply (wp_sent_scale X K c 1 _) $$ [Ha1 HO]
  · iframe HR Ha1 HO
  iintro ⟨HO, Hza1, Hss1⟩
  sl_exec
  iapply (wp_sent_codes X K c 1 _) $$ [Hb1 HO]
  · iframe HR Hb1 HO
  iintro ⟨HO, Hzb1, Hcs1⟩
  sl_exec
  iapply (wp_sent_scale X K c 2 _) $$ [Ha2 HO]
  · iframe HR Ha2 HO
  iintro ⟨HO, Hza2, Hss2⟩
  sl_exec
  iapply (wp_sent_codes X K c 2 _) $$ [Hb2 HO]
  · iframe HR Hb2 HO
  iintro ⟨HO, Hzb2, Hcs2⟩
  sl_exec
  iapply (wp_sent_scale X K c 3 _) $$ [Ha3 HO]
  · iframe HR Ha3 HO
  iintro ⟨HO, Hza3, Hss3⟩
  sl_exec
  iapply (wp_sent_codes X K c 3 _) $$ [Hb3 HO]
  · iframe HR Hb3 HO
  iintro ⟨HO, Hzb3, Hcs3⟩
  sl_exec
  iapply (wp_sent_scale X K c 4 _) $$ [Ha4 HO]
  · iframe HR Ha4 HO
  iintro ⟨HO, Hza4, Hss4⟩
  sl_exec
  iapply (wp_sent_codes X K c 4 _) $$ [Hb4 HO]
  · iframe HR Hb4 HO
  iintro ⟨HO, Hzb4, Hcs4⟩
  sl_exec
  iapply (wp_sent_scale X K c 5 _) $$ [Ha5 HO]
  · iframe HR Ha5 HO
  iintro ⟨HO, Hza5, Hss5⟩
  sl_exec
  iapply (wp_sent_codes X K c 5 _) $$ [Hb5 HO]
  · iframe HR Hb5 HO
  iintro ⟨HO, Hzb5, Hcs5⟩
  sl_exec
  iapply (wp_sent_scale X K c 6 _) $$ [Ha6 HO]
  · iframe HR Ha6 HO
  iintro ⟨HO, Hza6, Hss6⟩
  sl_exec
  iapply (wp_sent_codes X K c 6 _) $$ [Hb6 HO]
  · iframe HR Hb6 HO
  iintro ⟨HO, Hzb6, Hcs6⟩
  sl_exec
  iapply (wp_sent_scale X K c 7 _) $$ [Ha7 HO]
  · iframe HR Ha7 HO
  iintro ⟨HO, Hza7, Hss7⟩
  iapply (wp_sent_codes X K c 7 _) $$ [Hb7 HO]
  · iframe HR Hb7 HO
  iintro ⟨HO, Hzb7, Hcs7⟩
  rw [if_neg]
  rotate_left
  · exact zero_ne (taken_not true (moves true c hP _))
  sl_exec
  ihave Ho0 := (own_of c (blk oM 0) (res true X c 0)) $$ [Ho0]
  · isplitl [Ho0]; · iexact Ho0
    ipureintro; exact block_decoded 0 0 (fun q v => k0_pay39 q v) (fun _ _ => rfl) _ (o 0) _ fq0 fs0 (tile (X (partner c)) 0) hq0 hs0
  ihave Ho1 := (own_of c (blk oM 1) (res true X c 1)) $$ [Ho1]
  · isplitl [Ho1]; · iexact Ho1
    ipureintro; exact block_decoded 1 1 (fun q v => k0_pay40 q v) (fun _ _ => rfl) _ (o 1) _ fq1 fs1 (tile (X (partner c)) 1) hq1 hs1
  ihave Ho2 := (own_of c (blk oM 2) (res true X c 2)) $$ [Ho2]
  · isplitl [Ho2]; · iexact Ho2
    ipureintro; exact block_decoded 2 0 (fun q v => k0_pay42 (k0_pay41 q) v) (fun _ _ => rfl) _ (o 2) _ fq2 fs2 (tile (X (partner c)) 2) hq2 hs2
  ihave Ho3 := (own_of c (blk oM 3) (res true X c 3)) $$ [Ho3]
  · isplitl [Ho3]; · iexact Ho3
    ipureintro; exact block_decoded 3 1 (fun q v => k0_pay43 q v) (fun _ _ => rfl) _ (o 3) _ fq3 fs3 (tile (X (partner c)) 3) hq3 hs3
  ihave Ho4 := (own_of c (blk oM 4) (res true X c 4)) $$ [Ho4]
  · isplitl [Ho4]; · iexact Ho4
    ipureintro; exact block_decoded 4 0 (fun q v => k0_pay44 q v) (fun _ _ => rfl) _ (o 4) _ fq4 fs4 (tile (X (partner c)) 4) hq4 hs4
  ihave Ho5 := (own_of c (blk oM 5) (res true X c 5)) $$ [Ho5]
  · isplitl [Ho5]; · iexact Ho5
    ipureintro; exact block_decoded 5 1 (fun q v => k0_pay45 q v) (fun _ _ => rfl) _ (o 5) _ fq5 fs5 (tile (X (partner c)) 5) hq5 hs5
  ihave Ho6 := (own_of c (blk oM 6) (res true X c 6)) $$ [Ho6]
  · isplitl [Ho6]; · iexact Ho6
    ipureintro; exact block_decoded 6 0 (fun q v => k0_pay46 q v) (fun _ _ => rfl) _ (o 6) _ fq6 fs6 (tile (X (partner c)) 6) hq6 hs6
  ihave Ho7 := (own_of c (blk oM 7) (res true X c 7)) $$ [Ho7]
  · isplitl [Ho7]; · iexact Ho7
    ipureintro; exact block_decoded 7 1 (fun q v => k0_pay48 (k0_pay47 q v)) (fun _ _ => rfl) _ (o 7) _ fq7 fs7 (tile (X (partner c)) 7) hq7 hs7
  rw [wp_ret]; imodintro
  iapply HK
  unfold bodyEnd
  iexists _
  isplitl [HO]; · iexact HO
  isplitl [HzB]; · iexact HzB
  isplitl [Hpi]; · iexact Hpi
  isplitl [Hx0 Hx1 Hx2 Hx3 Hx4 Hx5 Hx6 Hx7]
  · iapply (each_of _)
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Ho0 Ho1 Ho2 Ho3 Ho4 Ho5 Ho6 Ho7]
  · iapply (each_of _)
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hxs0 Hxs1 Hos0 Hos1 Hl0 Hl1 Hst0 Hst1]
  · unfold stageBufs
    isplitl [Hxs0]; · iapply (free_intro c (slot2 xsM 0)); iexact Hxs0
    isplitl [Hxs1]; · iapply (free_intro c (slot2 xsM 1)); iexact Hxs1
    isplitl [Hos0]; · iapply (free_intro c (slot2 osM 0)); iexact Hos0
    isplitl [Hos1]; · iapply (free_intro c (slot2 osM 1)); iexact Hos1
    iframe Hl0 Hl1 Hst0 Hst1
  unfold wireBufs landBufs zeros
  isplitl [Hcs0 Hcs1 Hcs2 Hcs3 Hcs4 Hcs5 Hcs6 Hcs7 Hss0 Hss1 Hss2 Hss3 Hss4 Hss5 Hss6 Hss7]
  · isplitl [Hcs0 Hcs1 Hcs2 Hcs3 Hcs4 Hcs5 Hcs6 Hcs7]
    · iapply (each_of _)
      isplitl [Hcs0]; · unfold free; iexact Hcs0
      isplitl [Hcs1]; · unfold free; iexact Hcs1
      isplitl [Hcs2]; · unfold free; iexact Hcs2
      isplitl [Hcs3]; · unfold free; iexact Hcs3
      isplitl [Hcs4]; · unfold free; iexact Hcs4
      isplitl [Hcs5]; · unfold free; iexact Hcs5
      isplitl [Hcs6]; · unfold free; iexact Hcs6
      unfold free; iexact Hcs7
    · iapply (each_of _)
      isplitl [Hss0]; · unfold free; iexact Hss0
      isplitl [Hss1]; · unfold free; iexact Hss1
      isplitl [Hss2]; · unfold free; iexact Hss2
      isplitl [Hss3]; · unfold free; iexact Hss3
      isplitl [Hss4]; · unfold free; iexact Hss4
      isplitl [Hss5]; · unfold free; iexact Hss5
      isplitl [Hss6]; · unfold free; iexact Hss6
      unfold free; iexact Hss7
  isplitl [Hcr0 Hcr1 Hcr2 Hcr3 Hcr4 Hcr5 Hcr6 Hcr7 Hsr0 Hsr1 Hsr2 Hsr3 Hsr4 Hsr5 Hsr6 Hsr7]
  · isplitl [Hcr0 Hcr1 Hcr2 Hcr3 Hcr4 Hcr5 Hcr6 Hcr7]
    · iapply (each_of _)
      isplitl [Hcr0]; · iapply (free_intro c (slot8 crM 0)); iexact Hcr0
      isplitl [Hcr1]; · iapply (free_intro c (slot8 crM 1)); iexact Hcr1
      isplitl [Hcr2]; · iapply (free_intro c (slot8 crM 2)); iexact Hcr2
      isplitl [Hcr3]; · iapply (free_intro c (slot8 crM 3)); iexact Hcr3
      isplitl [Hcr4]; · iapply (free_intro c (slot8 crM 4)); iexact Hcr4
      isplitl [Hcr5]; · iapply (free_intro c (slot8 crM 5)); iexact Hcr5
      isplitl [Hcr6]; · iapply (free_intro c (slot8 crM 6)); iexact Hcr6
      iapply (free_intro c (slot8 crM 7)); iexact Hcr7
    · iapply (each_of _)
      isplitl [Hsr0]; · iapply (free_intro c (row8 srM 0)); iexact Hsr0
      isplitl [Hsr1]; · iapply (free_intro c (row8 srM 1)); iexact Hsr1
      isplitl [Hsr2]; · iapply (free_intro c (row8 srM 2)); iexact Hsr2
      isplitl [Hsr3]; · iapply (free_intro c (row8 srM 3)); iexact Hsr3
      isplitl [Hsr4]; · iapply (free_intro c (row8 srM 4)); iexact Hsr4
      isplitl [Hsr5]; · iapply (free_intro c (row8 srM 5)); iexact Hsr5
      isplitl [Hsr6]; · iapply (free_intro c (row8 srM 6)); iexact Hsr6
      iapply (free_intro c (row8 srM 7)); iexact Hsr7
  isplitl [Hzb0 Hzb1 Hzb2 Hzb3 Hzb4 Hzb5 Hzb6 Hzb7]
  · iapply (each_of _)
    isplitl [Hzb0]; · iexact Hzb0
    isplitl [Hzb1]; · iexact Hzb1
    isplitl [Hzb2]; · iexact Hzb2
    isplitl [Hzb3]; · iexact Hzb3
    isplitl [Hzb4]; · iexact Hzb4
    isplitl [Hzb5]; · iexact Hzb5
    isplitl [Hzb6]; · iexact Hzb6
    iexact Hzb7
  isplitl [Hzq0 Hzq1 Hzq2 Hzq3 Hzq4 Hzq5 Hzq6 Hzq7]
  · iapply (each_of _)
    isplitl [Hzq0]; · iexact Hzq0
    isplitl [Hzq1]; · iexact Hzq1
    isplitl [Hzq2]; · iexact Hzq2
    isplitl [Hzq3]; · iexact Hzq3
    isplitl [Hzq4]; · iexact Hzq4
    isplitl [Hzq5]; · iexact Hzq5
    isplitl [Hzq6]; · iexact Hzq6
    iexact Hzq7
  isplitl [Hza0 Hza1 Hza2 Hza3 Hza4 Hza5 Hza6 Hza7]
  · iapply (each_of _)
    isplitl [Hza0]; · iexact Hza0
    isplitl [Hza1]; · iexact Hza1
    isplitl [Hza2]; · iexact Hza2
    isplitl [Hza3]; · iexact Hza3
    isplitl [Hza4]; · iexact Hza4
    isplitl [Hza5]; · iexact Hza5
    isplitl [Hza6]; · iexact Hza6
    iexact Hza7
  · iapply (each_of _)
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    iexact Hzr7

end Cert.Swap

end
-- ==== Proof.Buffers.lean ====
/-
  Buffers in pieces: the arrays cut into the eight row blocks, the scratch buffers cut into their slots and rows,
  and put together again.
-/
module

public import proofs.«01_k».proof.Proof.Body

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pieces of a buffer are disjoint and cover it -/

theorem blkR_disjoint (k l : Fin 8) (h : k ≠ l) : Disjoint (blkR k).set (blkR l).set :=
  Ring.lead_disjoint (s := S1x1024x1024) (1 : Fin 3) 128 (fun k => ![0, 128 * k.val, 0]) S1x128x1024.size inb_blk (fun _ => rfl) rfl k l h
theorem blkR_cover : Finset.univ.biUnion (fun k => (blkR k).set) = Finset.univ :=
  Ring.lead_cover (s := S1x1024x1024) (1 : Fin 3) 128 (fun k => ![0, 128 * k.val, 0]) S1x128x1024.size inb_blk (fun _ => rfl) (by decide) rfl (by decide) rfl
theorem slot2R_disjoint (k l : Fin 2) (h : k ≠ l) : Disjoint (slot2R k).set (slot2R l).set :=
  Ring.lead_disjoint (s := S2x128x1024) (0 : Fin 3) 1 (fun k => ![k.val, 0, 0]) S1x128x1024.size inb_slot2 (fun k => (Nat.one_mul k.val).symm) rfl k l h
theorem slot2R_cover : Finset.univ.biUnion (fun k => (slot2R k).set) = Finset.univ :=
  Ring.lead_cover (s := S2x128x1024) (0 : Fin 3) 1 (fun k => ![k.val, 0, 0]) S1x128x1024.size inb_slot2 (fun k => (Nat.one_mul k.val).symm) (by decide) rfl (by decide) rfl
theorem slot8R_disjoint (k l : Fin 8) (h : k ≠ l) : Disjoint (slot8R k).set (slot8R l).set :=
  Ring.lead_disjoint (s := S8x128x1024) (0 : Fin 3) 1 (fun k => ![k.val, 0, 0]) S1x128x1024.size inb_slot8 (fun k => (Nat.one_mul k.val).symm) rfl k l h
theorem slot8R_cover : Finset.univ.biUnion (fun k => (slot8R k).set) = Finset.univ :=
  Ring.lead_cover (s := S8x128x1024) (0 : Fin 3) 1 (fun k => ![k.val, 0, 0]) S1x128x1024.size inb_slot8 (fun k => (Nat.one_mul k.val).symm) (by decide) rfl (by decide) rfl
theorem row8R_disjoint (k l : Fin 8) (h : k ≠ l) : Disjoint (row8R k).set (row8R l).set :=
  Ring.lead_disjoint (s := S8x128) (0 : Fin 2) 1 (fun k => ![k.val, 0]) S1x128.size inb_row8 (fun k => (Nat.one_mul k.val).symm) rfl k l h
theorem row8R_cover : Finset.univ.biUnion (fun k => (row8R k).set) = Finset.univ :=
  Ring.lead_cover (s := S8x128) (0 : Fin 2) 1 (fun k => ![k.val, 0]) S1x128.size inb_row8 (fun k => (Nat.one_mul k.val).symm) (by decide) rfl (by decide) rfl

/-- The elements under a piece of a whole buffer. -/
theorem set_piece (b : Ref sig .tc) (r : Rect b.ty.shape) (hr : ∀ a, r.stride a = 1) {s' : Shape} (h : r.shape.Squeezes s') :
    (((Memref.whole b).slice r hr).squeeze s' h).view.set = r.set :=
  (View.set_reshape (v := (View.whole b).slice r) h.numel_eq).trans (View.set_slice_whole b r)

/-! ## A buffer held in pieces -/

section Pieces

variable (c : Dev nD) (b : Ref sig .tc) {n : ℕ} (R : Fin n → Rect b.ty.shape)
  (hd : ∀ k l, k ≠ l → Disjoint (R k).set (R l).set) (hc : Finset.univ.biUnion (fun k => (R k).set) = Finset.univ)
  (hr : ∀ k a, (R k).stride a = 1) {s' : Shape} (h : ∀ k, (R k).shape.Squeezes s')

/-- The pieces of a buffer. -/
abbrev piece (k : Fin n) : Memref sig .tc b.space s' b.ty.elt := ((Memref.whole b).slice (R k) (hr k)).squeeze s' (h k)

include hd hc in
/-- A buffer held whole, held in pieces; -/
theorem cut (f : Buf (Elt F) ((c : Thread nD τ).loc b)) :
    ((c : Thread nD τ).loc b ↦{fullShare} f : sProp 𝕄) ⊢ bigSep Finset.univ fun k => at_ c (piece b R hr h k) f :=
  Entails.of_eq ((Ring.pointsTo_blocks (fun k => (R k).set) hd hc f).trans (bigSep_congr fun k _ => by
    show _ = ((c : Thread nD τ).loc b ↦[(piece b R hr h k).view.set]{fullShare} f : sProp 𝕄)
    rw [show (piece b R hr h k).view.set = (R k).set from set_piece b (R k) (hr k) (h k)]))

include hd hc in
/-- with contents left open; -/
theorem cut_free : iprop(∃ f : Buf (Elt F) ((c : Thread nD τ).loc b), (c : Thread nD τ).loc b ↦{fullShare} f)
    ⊢ (bigSep Finset.univ fun k => free (F := F) c (piece b R hr h k) : sProp 𝕄) := by
  iintro ⟨%f, H⟩
  ihave H' := (cut c b R hd hc hr h f) $$ H
  iapply (show (bigSep Finset.univ fun k => at_ c (piece b R hr h k) f : sProp 𝕄) ⊢ bigSep Finset.univ fun k => free (F := F) c (piece b R hr h k) from
    bigSep_mono fun k _ => free_intro (F := F) c (piece b R hr h k) (f := f))
  iexact H'

include hd hc in
/-- the pieces together again, contents left open; -/
theorem join_free : (bigSep Finset.univ fun k => free (F := F) c (piece b R hr h k) : sProp 𝕄)
    ⊢ iprop(∃ f : Buf (Elt F) ((c : Thread nD τ).loc b), (c : Thread nD τ).loc b ↦{fullShare} f) := by
  refine (Entails.of_eq (bigSep_congr fun k _ => ?_)).trans
    (Ring.pointsTo_blocks_join_exists (fun k => (R k).set) hd hc (Memref.whole b).view.junk)
  unfold free
  show iprop(∃ f, ((c : Thread nD τ).loc b ↦[(piece b R hr h k).view.set]{fullShare} f : sProp 𝕄)) = _
  rw [show (piece b R hr h k).view.set = (R k).set from set_piece b (R k) (hr k) (h k)]

include hd hc in
/-- the same with each piece's contents known. -/
theorem join_own (v : Fin n → s'.Idx → Elt F b.ty.elt) : (bigSep Finset.univ fun k => own (F := F) c (piece b R hr h k) (v k) : sProp 𝕄)
    ⊢ iprop(∃ f : Buf (Elt F) ((c : Thread nD τ).loc b), ⌜∀ k, (piece b R hr h k).view.read (Elt F) f = v k⌝ ∗ (c : Thread nD τ).loc b ↦{fullShare} f) := by
  unfold own
  haveI : ∀ k : Fin n, Nonempty (Buf (Elt F) ((piece b R hr h k).view.loc (c : Thread nD τ))) := fun k => ⟨(piece b R hr h k).view.junk⟩
  refine (BI.bigSep_exists_pi (Y := fun k => Buf (Elt F) ((piece b R hr h k).view.loc (c : Thread nD τ))) Finset.univ _).trans ?_
  iintro ⟨%f, H⟩
  ihave H := (Entails.of_eq (bigSep_sep' Finset.univ (fun k => iprop(⌜(piece b R hr h k).view.read (Elt F) (f k) = v k⌝)) (fun k => at_ c (piece b R hr h k) (f k)))) $$ H
  icases H with ⟨Hp, H⟩
  ihave %hp := (show (bigSep Finset.univ fun k => iprop(⌜(piece b R hr h k).view.read (Elt F) (f k) = v k⌝) : sProp 𝕄)
      ⊢ ⌜∀ k, (piece b R hr h k).view.read (Elt F) (f k) = v k⌝ from by
    iintro Hp %k
    ihave %hk := (show (bigSep Finset.univ fun k => iprop(⌜(piece b R hr h k).view.read (Elt F) (f k) = v k⌝) : sProp 𝕄)
      ⊢ ⌜(piece b R hr h k).view.read (Elt F) (f k) = v k⌝ from bigSep_elim (Finset.mem_univ k)) $$ Hp
    ipureintro; exact hk) $$ Hp
  ihave H := (show (bigSep Finset.univ fun k => at_ c (piece b R hr h k) (f k) : sProp 𝕄)
      ⊢ iprop(∃ g : Buf (Elt F) ((c : Thread nD τ).loc b), ⌜∀ k ∈ Finset.univ, ∀ i ∈ (R k).set, g i = f k i⌝ ∗ (c : Thread nD τ).loc b ↦[Finset.univ.biUnion fun k => (R k).set]{fullShare} g) from by
    refine BI.Entails.trans (Entails.of_eq (bigSep_congr fun k _ => ?_))
      (pointsTo_biUnion_join (ℓ := (c : Thread nD τ).loc b) (q := fullShare) Finset.univ (fun k => (R k).set) f (Memref.whole b).view.junk (fun k _ l _ hkl => hd k l hkl))
    show ((c : Thread nD τ).loc b ↦[(piece b R hr h k).view.set]{fullShare} f k : sProp 𝕄) = _
    rw [show (piece b R hr h k).view.set = (R k).set from set_piece b (R k) (hr k) (h k)]) $$ H
  icases H with ⟨%g, %hg, H⟩
  iexists g
  isplitr
  · ipureintro
    intro k
    rw [← hp k]
    exact View.read_congr fun i hi => hg k (Finset.mem_univ k) i ((set_piece b (R k) (hr k) (h k)) ▸ hi)
  rw [hc]; iexact H

end Pieces

end Cert.Swap

end
-- ==== Proof.Deal.lean ====
/-
  What the launch deals out: every cell's record, position and token, dealt to the two partners of an exchange; and
  the credit for what the partner owes.
-/
module

public import proofs.«01_k».proof.Proof.Buffers

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores -/

/-- The semaphores of the local copies, and those of the remote ones. -/
abbrev OwnSem : Type := Fin 4 ⊕ (Fin 4 × Fin 8)

theorem stageSem_lt (j : Fin 4) : 1 + j.val < sig.nDmaSem := by revert j; decide
abbrev osem : OwnSem → SemLoc sig
  | .inl j => .dma ⟨1 + j.val, stageSem_lt j⟩
  | .inr ik => csem (.inr ik)

theorem ownSemFacts : Pipeline.OwnSemFacts cfg0.spec osem := by decide

/-- The four counters of the local copies, at zero. -/
def stageSems (c : Dev nD) : sProp 𝕄 := bigSep Finset.univ fun j : Fin 4 => semVal ((c : Thread nD τ), osem (.inl j)) 0

theorem ownSems0_eq (c : Dev nD) : (Pipeline.ownSems0 (Ix := Unit) (Name := ℕ) (U := UU) (Lvl := ℕ) (Val := Elt F) (τ := τ) osem c : sProp 𝕄)
    = iprop(stageSems c ∗ bigSep Finset.univ fun ik : Fin 4 × Fin 8 => semVal (kcell (c, .inr ik)) 0) := by
  unfold Pipeline.ownSems0 stageSems; rw [BI.bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_fin2 (Φ : Fin 2 → sProp 𝕄) : bigSep Finset.univ Φ = iprop(Φ 0 ∗ Φ 1) :=
  bigSep_univ_eq_bigSepL [0, 1] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- One factor per kind and chunk, kind by kind. -/
theorem kinds_eq (Φ : Fin 4 × Fin 8 → sProp 𝕄) :
    bigSep Finset.univ Φ = iprop(each (fun k => Φ (0, k)) ∗ each (fun k => Φ (1, k)) ∗ each (fun k => Φ (2, k)) ∗ each (fun k => Φ (3, k))) := by
  rw [bigSep_univ_prod, bigSep_fin4]
/-- One factor per cell of a device: the handshake's, then kind by kind. -/
theorem cells_eq (Φ : Cells → sProp 𝕄) :
    bigSep Finset.univ Φ = iprop(Φ (.inl ()) ∗ bigSep Finset.univ fun ik => Φ (.inr ik)) := by
  rw [BI.bigSep_univ_sum, show (bigSep Finset.univ fun u : Unit => Φ (.inl u)) = Φ (.inl ()) from
    bigSep_univ_eq_bigSepL [()] (by decide) (by decide) _]
  rfl

/-! ## The launch element -/

def xCells : Finset (GSem nD τ sig) := Finset.univ.map ⟨kcell, kcell_injective⟩

abbrev tokOf (cj : Dev nD × Cells) : GSem nD τ sig × ℕ × Unit := (kcell cj, 0, ())
theorem tokOf_injective : Function.Injective (tokOf : Dev nD × Cells → GSem nD τ sig × ℕ × Unit) :=
  fun a b h => kcell_injective (congrArg Prod.fst h)
def xToks : Finset (GSem nD τ sig × ℕ × Unit) := Finset.univ.map ⟨tokOf, tokOf_injective⟩

def u₀ : UU := (initOf (Pipeline.cells cfgs cellOf_inj) (Pipeline.launchToks cfgs cellOf_inj), (initOf xCells xToks, 1))

section Deal

variable (sw : Bool) (X : XT F)

/-- The state, position, record and token of every cell of a device. -/
def G (c : Dev nD) : sProp 𝕄 :=
  iprop((bigSep Finset.univ fun j : Cells => roundState ER (Rd sw X) (kcell (c, j)) 0)
    ∗ (bigSep Finset.univ fun j : Cells => atPos ER (kcell (c, j)) 0 ∅ 0) ∗ (bigSep Finset.univ fun j : Cells => reached ER (kcell (c, j)) 0)
    ∗ bigSep Finset.univ fun j : Cells => dutyTok ER (kcell (c, j)) 0 ())

/-- What a device goes in with: its positions, the tokens it pays with, the counters of its local copies. -/
def held (c : Dev nD) : sProp 𝕄 :=
  iprop((bigSep Finset.univ fun j : Cells => atPos ER (kcell (c, j)) 0 ∅ 0) ∗ (dutyTok ER (kcell (partner c, .inl ())) 0 () ∗ tokens c) ∗ stageSems c)
/-- That, and the shared records at some names. -/
def G' (c : Dev nD) : sProp 𝕄 := iprop(∃ K, records sw X K ∗ held c)

theorem fund : BI.own (ER (initOf xCells xToks)) ⊢ (|==> bigSep Finset.univ (G sw X) : sProp 𝕄) := by
  have hX (Φ : GSem nD τ sig → sProp 𝕄) : bigSep xCells Φ = bigSep Finset.univ fun c : Dev nD => bigSep Finset.univ fun j : Cells => Φ (kcell (c, j)) := by
    unfold xCells; rw [bigSep_map, bigSep_univ_prod]; rfl
  have hT : bigSep xToks (fun x => (dutyTok ER x.1 x.2.1 x.2.2 : sProp 𝕄))
      = bigSep Finset.univ fun c : Dev nD => bigSep Finset.univ fun j : Cells => dutyTok ER (kcell (c, j)) 0 () := by
    unfold xToks; rw [bigSep_map, bigSep_univ_prod]; rfl
  iintro HX
  imod (Rounds.fund ER (Rd sw X) xCells xToks) $$ HX with ⟨Hst, Hr, Hat, Htok⟩
  imodintro
  ihave Hst' := (Entails.of_eq (hX fun g => roundState ER (Rd sw X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Cells => semVal (kcell (c, j)) 0) ∗ stageSems c) : sProp 𝕄) := by
  rw [ownSems0_eq, unscopedSems0_eq, cells_eq]
  iintro ⟨⟨HS, HV⟩, HB⟩
  isplitl [HB HV]
  · isplitl [HB] <;> iassumption
  iexact HS

/-- On one device every cell's record is set up. -/
theorem set_up (c : Dev nD) :
    iprop(Pipeline.ownSems0 (Ix := Unit) (Name := ℕ) (U := UU) (Lvl := ℕ) (Val := Elt F) (τ := τ) osem c ∗ unscopedSems0 c ∗ G sw X c)
      ⊢ |={Set.univ}=> iprop((bigSep Finset.univ fun j : Cells => iprop(∃ κ : ℕ, cellInv ER (Rd sw X) κ (kcell (c, j))))
          ∗ (bigSep Finset.univ fun j : Cells => atPos ER (kcell (c, j)) 0 ∅ 0) ∗ (bigSep Finset.univ fun j : Cells => reached ER (kcell (c, j)) 0)
          ∗ (bigSep Finset.univ fun j : Cells => dutyTok ER (kcell (c, j)) 0 ()) ∗ stageSems c) := by
  unfold G
  iintro ⟨Hos, Hus, Hst, Hat, Hr, Htok⟩
  ihave Hv := (sems0_eq (F := F) c) $$ [Hos Hus]
  · isplitl [Hos] <;> iassumption
  icases Hv with ⟨Hv, Hs⟩
  imod (show iprop((bigSep Finset.univ fun j : Cells => semVal (kcell (c, j)) 0) ∗ bigSep Finset.univ fun j : Cells => roundState ER (Rd sw X) (kcell (c, j)) 0)
      ⊢ (|={Set.univ}=> bigSep Finset.univ fun j => iprop(∃ κ : ℕ, cellInv ER (Rd sw X) κ (kcell (c, j))) : sProp 𝕄) from by
        rw [← bigSep_sep']
        exact (bigSep_mono fun j _ => (Rounds.body_intro ER (Rd sw X) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hs

/-- The tokens dealt between partners: a device pays with its own sending cells' tokens, and with its partner's
    handshake and receiving cells'. -/
theorem swap_toks : (bigSep Finset.univ fun c : Dev nD => bigSep Finset.univ fun j : Cells => (dutyTok ER (kcell (c, j)) 0 () : sProp 𝕄))
    ⊢ bigSep Finset.univ fun c : Dev nD => iprop(dutyTok ER (kcell (partner c, .inl ())) 0 () ∗ tokens c) := by
  have hp (Φ : Dev nD → sProp 𝕄) : bigSep Finset.univ Φ = bigSep Finset.univ fun c => Φ (partner c) := bigSep_univ_equiv partnerEquiv Φ
  rw [bigSep_congr (s := Finset.univ) (fun (c : Dev nD) _ => (cells_eq (fun j : Cells => (dutyTok ER (kcell (c, j)) 0 () : sProp 𝕄))).trans
    (congrArg (fun A => iprop(dutyTok ER (kcell (c, .inl ())) 0 () ∗ A)) (kinds_eq _)))]
  unfold tokens toks each
  simp only [bigSep_sep']
  rw [hp fun c => dutyTok ER (kcell (c, .inl ())) 0 (),
    hp fun c => bigSep Finset.univ fun k : Fin 8 => dutyTok ER (kcell (c, .inr (1, k))) 0 (),
    hp fun c => bigSep Finset.univ fun k : Fin 8 => dutyTok ER (kcell (c, .inr (3, k))) 0 ()]
  iintro ⟨HB, H0, H1, H2, H3⟩
  isplitl [HB]; · iexact HB
  isplitl [H0 H1]
  · isplitl [H0] <;> iassumption
  isplitl [H2] <;> iassumption

/-- All devices together: the records become shared, the tokens are dealt. -/
theorem regroup :
    (bigSep Finset.univ fun c : Dev nD => iprop((bigSep Finset.univ fun j : Cells => iprop(∃ κ : ℕ, cellInv ER (Rd sw X) κ (kcell (c, j))))
          ∗ (bigSep Finset.univ fun j : Cells => atPos ER (kcell (c, j)) 0 ∅ 0) ∗ (bigSep Finset.univ fun j : Cells => reached ER (kcell (c, j)) 0)
          ∗ (bigSep Finset.univ fun j : Cells => dutyTok ER (kcell (c, j)) 0 ()) ∗ stageSems c) : sProp 𝕄)
      ⊢ bigSep Finset.univ (G' sw X) := by
  have hheld : bigSep Finset.univ (held (F := F)) = iprop((bigSep Finset.univ fun c : Dev nD => bigSep Finset.univ fun j : Cells => atPos ER (kcell (c, j)) 0 ∅ 0)
      ∗ (bigSep Finset.univ fun c : Dev nD => iprop(dutyTok ER (kcell (partner c, .inl ())) 0 () ∗ tokens c)) ∗ bigSep Finset.univ fun c : Dev nD => stageSems c) := by
    unfold held; rw [bigSep_sep', bigSep_sep' Finset.univ (fun c : Dev nD => iprop(dutyTok ER (kcell (partner c, .inl ())) 0 () ∗ tokens c))]
  rw [bigSep_sep', bigSep_sep', bigSep_sep', bigSep_sep', ← bigSep_univ_prod (fun cj : Dev nD × Cells => iprop(∃ κ : ℕ, cellInv ER (Rd sw X) κ (kcell cj))),
    ← bigSep_univ_prod (fun cj : Dev nD × Cells => (reached ER (kcell cj) 0 : sProp 𝕄))]
  iintro ⟨HI, Hat, #HR, Htok, Hs⟩
  ihave HK := (BI.bigSep_exists_pi Finset.univ (fun (cj : Dev nD × Cells) (κ : ℕ) => (cellInv ER (Rd sw X) κ (kcell cj) : sProp 𝕄))) $$ HI
  icases HK with ⟨%K, #HI⟩
  ihave Htk := (swap_toks (F := F)) $$ Htok
  iapply (BI.bigSep_with_persistent (R := records sw X K) (Φ := held) (Ψ := G' sw X) (S := Finset.univ) fun c _ => by
    unfold G'; iintro ⟨HR, HH⟩; iexists K; isplitl [HR] <;> iassumption)
  isplitr
  · unfold records; isplitl; · iexact HI
    iexact HR
  · iapply (Entails.of_eq hheld.symm)
    isplitl [Hat]; · iexact Hat
    isplitl [Htk] <;> iassumption

/-- The step at launch. -/
theorem glob : (bigSep Finset.univ fun c => iprop(Pipeline.ownSems0 (Ix := Unit) (Name := ℕ) (U := UU) (Lvl := ℕ) (Val := Elt F) (τ := τ) osem c ∗ unscopedSems0 c ∗ G sw X c) : sProp 𝕄)
    ⊢ |={Set.univ}=> bigSep Finset.univ (G' sw X) :=
  ((bigSep_mono fun c _ => set_up sw X c).trans (bigSep_fupd _ _)).trans (BI.fupd_mono (regroup sw X))

end Deal

/-! ## The credit at launch -/

theorem cell_eq_iff {a b : Dev nD} {j j' : Cells} : kcell (a, j) = kcell (b, j') ↔ a = b ∧ j = j' :=
  ⟨fun h => ⟨congrArg Prod.fst (kcell_injective h), congrArg Prod.snd (kcell_injective h)⟩, fun h => by rw [h.1, h.2]⟩

theorem landIx_inj : ∀ a < 16, ∀ b < 16, landIx a = landIx b → a = b := by decide

/-- What a device owes a receiving cell; -/
theorem owed_land (d c : Dev nD) (n : ℕ) (hn : n < 16) :
    owedFrom d 0 (kcell (c, landIx n)) () = if d = partner c then amt (landIx n) else 0 := by
  unfold owedFrom
  rw [Finset.sum_apply, Finsupp.finset_sum_apply]
  rw [Finset.sum_eq_single_of_mem n (Finset.mem_Ico.mpr ⟨Nat.zero_le _, hn⟩) fun i hi hne => by
    rw [tallyAt_apply, if_neg fun h => hne (landIx_inj i (Finset.mem_Ico.mp hi).2 n hn (cell_eq_iff.mp h.1).2.symm)]]
  rw [tallyAt_apply]
  by_cases h : d = partner c
  · rw [if_pos h, if_pos ⟨cell_eq_iff.mpr ⟨by rw [h, partner_partner], rfl⟩, rfl⟩]
  · rw [if_neg h, if_neg fun h' => h (by rw [(cell_eq_iff.mp h'.1).1, partner_partner])]

theorem owed_bar (sw : Bool) (d c : Dev nD) : O₀ sw d (barCell c) () = if d = partner c then 1 else 0 := by
  have h1 : O₁ sw d (barCell c) () = 0 := by
    by_contra h
    obtain ⟨i, hi⟩ := O₁_pos sw (Nat.pos_of_ne_zero h)
    exact nomatch (cell_eq_iff.mp hi).2
  unfold O₀
  rw [Pi.add_apply, Finsupp.add_apply, h1, Nat.zero_add, tallyAt_apply]
  by_cases h : d = partner c
  · rw [if_pos h, if_pos ⟨cell_eq_iff.mpr ⟨by rw [h, partner_partner], rfl⟩, rfl⟩]
  · rw [if_neg h, if_neg fun h' => h (by rw [(cell_eq_iff.mp h'.1).1, partner_partner])]

/-- and with the handshake's unit counted. -/
theorem owed_recv (d c : Dev nD) (n : ℕ) (hn : n < 16) :
    O₀ true d (kcell (c, landIx n)) () = if d = partner c then amt (landIx n) else 0 := by
  unfold O₀
  rw [Pi.add_apply, Finsupp.add_apply, tallyAt_apply, if_neg fun h => Sum.inr_ne_inl (cell_eq_iff (a := c) (b := partner d) (j := landIx n) (j' := .inl ()) |>.mp h.1).2, Nat.add_zero]
  exact owed_land d c n hn

theorem launch_bar (sw : Bool) (c : Dev nD) :
    tallyOn (barCell c) (launchCredit (Pipeline.owing (O₀ sw)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar sw d c,
    Finset.sum_ite_eq' Finset.univ (partner c) fun _ => 1, if_pos (Finset.mem_univ _)]

theorem launch_recv (c : Dev nD) (n : ℕ) (hn : n < 16) :
    tallyOn (kcell (c, landIx n)) (launchCredit (Pipeline.owing (O₀ true)) 0 (kcell (c, landIx n)))
      = (tallyAt (kcell (c, landIx n)) () (amt (landIx n)) : CellTallies nD τ sig Unit) := by
  unfold tallyAt; refine congrArg _ (Finsupp.ext fun u => ?_); cases u
  rw [Pipeline.launchCredit_owing, Finsupp.single_eq_same, Finset.sum_congr rfl fun d _ => owed_recv d c n hn,
    Finset.sum_ite_eq' Finset.univ (partner c) fun _ => amt (landIx n), if_pos (Finset.mem_univ _)]

theorem land1 : ∀ k : Fin 8, landIx (2 * k.val + 1) = .inr (1, k) := by decide
theorem land3 : ∀ k : Fin 8, landIx (2 * k.val) = .inr (3, k) := by decide

/-- What a device may draw: the handshake's unit, and what its partner is to send it. -/
theorem creds (sw : Bool) (c : Dev nD) :
    (Pipeline.launchCred (O₀ sw) c : sProp 𝕄) ⊢ iprop(cred (tallyAt (barCell c) () 1) ∗ credits sw c) := by
  unfold Pipeline.launchCred
  refine (bigSep_subset (Finset.subset_univ (Finset.univ.map ⟨csem, csem_injective⟩))).trans ?_
  rw [bigSep_map]
  show (bigSep Finset.univ fun j : Cells => cred (tallyOn (kcell (c, j)) (launchCredit (Pipeline.owing (O₀ sw)) 0 (kcell (c, j)))) : sProp 𝕄) ⊢ _
  rw [cells_eq, launch_bar, kinds_eq]
  unfold credits
  cases sw
  · rw [if_neg Bool.false_ne_true]
    iintro ⟨HB, -⟩
    isplitl [HB]; · iexact HB
    iempintro
  · rw [if_pos rfl]
    have h1 (k : Fin 8) := launch_recv c (2 * k.val + 1) (by omega)
    have h3 (k : Fin 8) := launch_recv c (2 * k.val) (by omega)
    simp only [land1, land3] at h1 h3
    simp only [h1, h3]
    iintro ⟨HB, -, H1, -, H3⟩
    isplitl [HB]; · iexact HB
    isplitl [H1]; · iexact H1
    iexact H3

end Cert.Swap

end
-- ==== Proof.Launch.lean ====
/-
  The launch: the kernel run on every device at once, from any contents whose table is the exchange or the identity.
-/
module

public import proofs.«01_k».proof.Proof.Deal
public import Idealize.ShloMosaic.Lib.Pipeline.CollectiveSegs

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Launch

variable (sw : Bool) (m : (ℓ : Loc nD τ sig) → Buf (Elt F) ℓ) (ρ : Dev nD → PrngReg)

/-- The blocks the devices hold of the argument. -/
abbrev inp : XT F := fun c => m ((c : Thread nD τ).loc main_arg0)

/-- The table as the kernel reads it. -/
def pistg (c : Dev nD) : (cc0_stg0_0 : Ref sig .tc).ty.Contents (Elt F) :=
  (win0_0.blk (0 : Fin 1)).view.read (Elt F) (m ((c : Thread nD τ).loc main_arg1))

/-- Every device's table is the exchange (or the identity). -/
def Tabled : Prop := ∀ (c : Dev nD) (i : S2.Idx), m ((c : Thread nD τ).loc main_arg1) i = table sw i

theorem pistg_table (h : Tabled sw m) (c : Dev nD) (i : S2.Idx) : pistg m c i = table sw i := by
  refine (h c _).trans ?_
  have e : (((win0_0.blk (0 : Fin 1)).view.emb i : S2.Idx) 0).val = (i 0).val := by
    show _ + _ = _
    simp
    exact Or.inl rfl
  unfold table
  rw [e]

def s₀ : MemSt nD τ sig (Elt F) := ⟨m, fun _ => 0, ρ⟩

/-- What a device starts from. -/
def start (c : Dev nD) : sProp 𝕄 :=
  iprop(G' sw (inp m) c ∗ cred (tallyAt (barCell c) () 1) ∗ credits sw c ∗ levAts L lv
    ∗ ((c : Thread nD τ).loc main_arg0 ↦{fullShare} inp m c) ∗ (∃ f : Buf (Elt F) ((c : Thread nD τ).loc main_v1), (c : Thread nD τ).loc main_v1 ↦{fullShare} f))

/-- What it ends with: its block of the argument as it was, and the result's rows as they are to be. -/
def finish (c : Dev nD) : sProp 𝕄 :=
  iprop(unscopedSems0 c ∗ ((c : Thread nD τ).loc main_arg0 ↦{fullShare} inp m c)
    ∗ ∃ f : Buf (Elt F) ((c : Thread nD τ).loc main_v1), ⌜∀ k, (blk oM k).view.read (Elt F) f = res sw (inp m) c k⌝ ∗ (c : Thread nD τ).loc main_v1 ↦{fullShare} f)

def Φ₀ (c : Dev nD) : sProp 𝕄 := iprop(start sw m c ∗ Pipeline.scopedRest (Ix := Unit) (Name := ℕ) (U := UU) (Lvl := ℕ) (Val := Elt F) cfg0.spec c)
def Φ₁ (c : Dev nD) : sProp 𝕄 := iprop(finish sw m c ∗ Pipeline.ownSems0 (Ix := Unit) (Name := ℕ) (U := UU) (Lvl := ℕ) (Val := Elt F) (τ := τ) osem c
  ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pistg m c
  Φ t := match t with
    | ⟨0, _⟩ => Φ₀ sw m c
    | ⟨_ + 1, _⟩ => Φ₁ sw m c
  q _ := fullShare
  owed t := match t with
    | ⟨0, _⟩ => O₀ sw c
    | ⟨_ + 1, _⟩ => 0

/-! ## Between the launch's buffers and the body's pieces -/

theorem scratch_cut (c : Dev nD) : (Pipeline.scopedRest (Ix := Unit) (Name := ℕ) (U := UU) (Lvl := ℕ) (Val := Elt F) cfg0.spec c : sProp 𝕄)
    ⊢ iprop((free c (slot2 xsM 0) ∗ free c (slot2 xsM 1) ∗ free c (slot2 osM 0) ∗ free c (slot2 osM 1)) ∗ wireBufs c ∗ landBufs c) := by
  rw [scopedRest0_eq]
  unfold wireBufs landBufs
  iintro ⟨Hxs, Hos, Hcs, Hcr, Hss, Hsr⟩
  ihave Hxs := ((cut_free (F := F) c cc0_scratch0 slot2R slot2R_disjoint slot2R_cover (fun _ _ => rfl) (fun _ => squeezes_S1x128x1024_S128x1024)).trans
    (Entails.of_eq (bigSep_fin2 _))) $$ Hxs
  ihave Hos := ((cut_free (F := F) c cc0_scratch1 slot2R slot2R_disjoint slot2R_cover (fun _ _ => rfl) (fun _ => squeezes_S1x128x1024_S128x1024)).trans
    (Entails.of_eq (bigSep_fin2 _))) $$ Hos
  icases Hxs with ⟨Hx0, Hx1⟩
  icases Hos with ⟨Ho0, Ho1⟩
  isplitl [Hx0 Hx1 Ho0 Ho1]
  · isplitl [Hx0]; · iexact Hx0
    isplitl [Hx1]; · iexact Hx1
    isplitl [Ho0]; · iexact Ho0
    iexact Ho1
  isplitl [Hcs Hss]
  · isplitl [Hcs]
    · iapply (cut_free (F := F) c cc0_scratch2 slot8R slot8R_disjoint slot8R_cover (fun _ _ => rfl) (fun _ => squeezes_S1x128x1024_S128x1024)); iexact Hcs
    iapply (cut_free (F := F) c cc0_scratch4 row8R row8R_disjoint row8R_cover (fun _ _ => rfl) (fun _ => squeezes_S1x128_S128)); iexact Hss
  · isplitl [Hcr]
    · iapply (cut_free (F := F) c cc0_scratch3 slot8R slot8R_disjoint slot8R_cover (fun _ _ => rfl) (fun _ => squeezes_S1x128x1024_S128x1024)); iexact Hcr
    iapply (cut_free (F := F) c cc0_scratch5 row8R row8R_disjoint row8R_cover (fun _ _ => rfl) (fun _ => squeezes_S1x128_S128)); iexact Hsr

theorem scratch_join (c : Dev nD) :
    iprop((free c (slot2 xsM 0) ∗ free c (slot2 xsM 1) ∗ free c (slot2 osM 0) ∗ free c (slot2 osM 1)) ∗ wireBufs c ∗ landBufs c)
      ⊢ (Pipeline.scopedRest (Ix := Unit) (Name := ℕ) (U := UU) (Lvl := ℕ) (Val := Elt F) cfg0.spec c : sProp 𝕄) := by
  rw [scopedRest0_eq]
  unfold wireBufs landBufs
  iintro ⟨⟨Hx0, Hx1, Ho0, Ho1⟩, ⟨Hcs, Hss⟩, Hcr, Hsr⟩
  isplitl [Hx0 Hx1]
  · iapply (((Entails.of_eq (bigSep_fin2 (fun k : Fin 2 => free (F := F) c (slot2 xsM k))).symm)).trans
      (join_free (F := F) c cc0_scratch0 slot2R slot2R_disjoint slot2R_cover (fun _ _ => rfl) (fun _ => squeezes_S1x128x1024_S128x1024)))
    isplitl [Hx0] <;> iassumption
  isplitl [Ho0 Ho1]
  · iapply (((Entails.of_eq (bigSep_fin2 (fun k : Fin 2 => free (F := F) c (slot2 osM k))).symm)).trans
      (join_free (F := F) c cc0_scratch1 slot2R slot2R_disjoint slot2R_cover (fun _ _ => rfl) (fun _ => squeezes_S1x128x1024_S128x1024)))
    isplitl [Ho0] <;> iassumption
  isplitl [Hcs]
  · iapply (join_free (F := F) c cc0_scratch2 slot8R slot8R_disjoint slot8R_cover (fun _ _ => rfl) (fun _ => squeezes_S1x128x1024_S128x1024)); iexact Hcs
  isplitl [Hcr]
  · iapply (join_free (F := F) c cc0_scratch3 slot8R slot8R_disjoint slot8R_cover (fun _ _ => rfl) (fun _ => squeezes_S1x128x1024_S128x1024)); iexact Hcr
  isplitl [Hss]
  · iapply (join_free (F := F) c cc0_scratch4 row8R row8R_disjoint row8R_cover (fun _ _ => rfl) (fun _ => squeezes_S1x128_S128)); iexact Hss
  iapply (join_free (F := F) c cc0_scratch5 row8R row8R_disjoint row8R_cover (fun _ _ => rfl) (fun _ => squeezes_S1x128_S128)); iexact Hsr

/-- The argument's block in row blocks and back. -/
theorem arg_cut (c : Dev nD) (f : Buf (Elt F) ((c : Thread nD τ).loc main_arg0)) :
    ((c : Thread nD τ).loc main_arg0 ↦{fullShare} f : sProp 𝕄) = each fun k => at_ c (blk xM k) f :=
  (Ring.pointsTo_blocks (fun k => (blkR k).set) blkR_disjoint blkR_cover f).trans (bigSep_congr fun k _ => by
    show _ = ((c : Thread nD τ).loc main_arg0 ↦[(blk xM k).view.set]{fullShare} f : sProp 𝕄)
    rw [show (blk xM k).view.set = (blkR k).set from set_piece main_arg0 (blkR k) (fun _ => rfl) squeezes_S1x128x1024_S128x1024])

theorem out_cut (c : Dev nD) :
    iprop(∃ f : Buf (Elt F) ((c : Thread nD τ).loc main_v1), (c : Thread nD τ).loc main_v1 ↦{fullShare} f)
      ⊢ (each fun k => free c (blk oM k) : sProp 𝕄) :=
  cut_free (F := F) c main_v1 blkR blkR_disjoint blkR_cover (fun _ _ => rfl) (fun _ => squeezes_S1x128x1024_S128x1024)

theorem out_join (c : Dev nD) (v : Fin 8 → FVec F S128x1024 .f32) :
    (each fun k => own c (blk oM k) (v k) : sProp 𝕄)
      ⊢ iprop(∃ f : Buf (Elt F) ((c : Thread nD τ).loc main_v1), ⌜∀ k, (blk oM k).view.read (Elt F) f = v k⌝ ∗ (c : Thread nD τ).loc main_v1 ↦{fullShare} f) :=
  join_own (F := F) c main_v1 blkR blkR_disjoint blkR_cover (fun _ _ => rfl) (fun _ => squeezes_S1x128x1024_S128x1024) v

/-- What the body starts from, out of what a device is dealt. -/
theorem enter (c : Dev nD) (P : Buf (Elt F) (piM.view.loc (c : Thread nD τ))) (W : Waits sig Unit) :
    iprop(Φ₀ sw m c ∗ owes (c : Thread nD τ) (O₀ sw c) W ∗ at_ c piM P) ⊢ iprop(∃ K, bodyStart sw (inp m) K c P W) := by
  unfold Φ₀ start G' held bodyStart due stageBufs places
  rw [cells_eq (fun j : Cells => (atPos ER (kcell (c, j)) 0 ∅ 0 : sProp 𝕄)), kinds_eq (fun ik => (atPos ER (kcell (c, .inr ik)) 0 ∅ 0 : sProp 𝕄))]
  iintro ⟨⟨⟨⟨%K, HR, ⟨HaB, Ha⟩, ⟨HtB, Htk⟩, Hs⟩, HcB, Hcr, Hlev, Hx, Ho⟩, Hscr⟩, HO, Hpi⟩
  ihave Hscr := (scratch_cut (F := F) c) $$ Hscr
  icases Hscr with ⟨⟨Hx0, Hx1, Ho0, Ho1⟩, Hw, Hl⟩
  ihave Hs := (Entails.of_eq (by unfold stageSems; rw [bigSep_fin4] : (stageSems c : sProp 𝕄) = _)) $$ Hs
  icases Hs with ⟨Hs0, Hs1, Hs2, Hs3⟩
  iexists K
  isplitl [Hlev]; · iexact Hlev
  isplitl [HR]; · iexact HR
  isplitl [HO]; · iexact HO
  isplitl [HtB]; · iexact HtB
  isplitl [HaB HcB]
  · isplitl [HaB]; · iexact HaB
    iexact HcB
  isplitl [Hpi]; · iexact Hpi
  isplitl [Hx]; · iapply (Entails.of_eq (arg_cut c (inp m c))); iexact Hx
  isplitl [Ho]; · iapply (out_cut (F := F) c); iexact Ho
  isplitl [Hx0 Hx1 Ho0 Ho1 Hs0 Hs1 Hs2 Hs3]
  · isplitl [Hx0]; · iexact Hx0
    isplitl [Hx1]; · iexact Hx1
    isplitl [Ho0]; · iexact Ho0
    isplitl [Ho1]; · iexact Ho1
    isplitl [Hs0]; · iexact Hs0
    isplitl [Hs1]; · iexact Hs1
    isplitl [Hs2]; · iexact Hs2
    iexact Hs3
  isplitl [Hw]; · iexact Hw
  isplitl [Hl]; · iexact Hl
  isplitl [Ha]; · iexact Ha
  isplitl [Htk]; · iexact Htk
  iexact Hcr

/-- What a device ends with, out of what the body ends with. -/
theorem leave (c : Dev nD) (P : Buf (Elt F) (piM.view.loc (c : Thread nD τ))) :
    bodyEnd sw (inp m) c P ⊢ iprop(Φ₁ sw m c ∗ (∃ W : Waits sig Unit, owes (c : Thread nD τ) 0 W) ∗ at_ c piM P) := by
  unfold Φ₁ finish bodyEnd stageBufs zeros
  rw [ownSems0_eq, unscopedSems0_eq, kinds_eq (fun ik => (semVal (kcell (c, .inr ik)) 0 : sProp 𝕄))]
  iintro ⟨%W, HO, HzB, Hpi, Hx, Ho, ⟨Hx0, Hx1, Ho0, Ho1, Hs0, Hs1, Hs2, Hs3⟩, Hw, Hl, Hz⟩
  isplitr [HO Hpi]
  · isplitl [HzB Hx Ho]
    · isplitl [HzB]; · iexact HzB
      isplitl [Hx]; · iapply (Entails.of_eq (arg_cut c (inp m c)).symm); iexact Hx
      iapply (out_join c (res sw (inp m) c)); iexact Ho
    isplitl [Hs0 Hs1 Hs2 Hs3 Hz]
    · isplitr [Hz]
      · iapply (Entails.of_eq (by unfold stageSems; rw [bigSep_fin4] : (stageSems c : sProp 𝕄) = _).symm)
        isplitl [Hs0]; · iexact Hs0
        isplitl [Hs1]; · iexact Hs1
        isplitl [Hs2]; · iexact Hs2
        iexact Hs3
      iexact Hz
    iapply (scratch_join (F := F) c)
    isplitl [Hx0 Hx1 Ho0 Ho1]
    · isplitl [Hx0]; · iexact Hx0
      isplitl [Hx1]; · iexact Hx1
      isplitl [Ho0]; · iexact Ho0
      iexact Ho1
    isplitl [Hw] <;> iassumption
  isplitl [HO]; · iexists W; iexact HO
  iexact Hpi

/-! ## The body, as the pipeline calls it -/

theorem bigSep_W (Φ : Fin cfg0.W → sProp 𝕄) : bigSep Finset.univ Φ = iprop(Φ (0 : Fin 1)) := bigSep_W0 Φ

/-- The kernel's body from its start to its end, in either case. -/
theorem body_run (X : XT F) (K : Dev nD × Cells → ℕ) (c : Dev nD) (P : Buf (Elt F) (piM.view.loc (c : Thread nD τ)))
    (hP : ∀ i : S2.Idx, P i = table sw i) (W : Waits sig Unit) (Kt : PUnit → sProp 𝕄) :
    iprop(bodyStart sw X K c P W ∗ (bodyEnd sw X c P -∗ Kt ⟨⟩))
      ⊢ wp frame (wpE (defs₀ (F := F)) 𝒱₀ (c : Thread nD τ) none) Set.univ (bodyAt0 t0_0) Kt := by
  cases sw
  · exact body_kept X K c P hP W Kt
  · exact body_swap X K c P hP W Kt

theorem body_obligation (h : Tabled sw m) (c : Dev nD) : BodyObligation (dats (F := F) sw m ρ 0 c) (defs₀ (F := F)) 𝒱₀ () Set.univ := fun t => by
  rw [show t = t0_0 from fin_N0 t]
  rw [bigSep_W, bigSep_W]
  show iprop(Φ₀ sw m c ∗ (dats sw m ρ 0 c).owesAt () (Fin.castSucc t0_0)
      ∗ (∃ d, owns (c : Thread nD τ) piM fullShare ((dats sw m ρ 0 c).before (0 : Fin 1) t0_0 d)))
    ⊢ wp frame (wpE (defs₀ (F := F)) 𝒱₀ c none) Set.univ (bodyAt0 t0_0)
      (fun _ => iprop(Φ₁ sw m c ∗ (dats sw m ρ 0 c).owesAt () (Fin.succ t0_0) ∗ owns (c : Thread nD τ) piM fullShare (pistg m c)))
  unfold owns Dat.owesAt Pipeline.owesWithin
  rw [show (dats sw m ρ 0 c).owed (Fin.castSucc t0_0) = O₀ sw c from rfl, show (dats sw m ρ 0 c).owed (Fin.succ t0_0) = 0 from rfl]
  iintro ⟨HΦ, ⟨%W, %hW, HO⟩, %d, %P, %hP, Hpi⟩
  have hx : P = pistg m c := by
    rw [← View.read_whole cc0_stg0_0 P]; refine hP.trans ?_
    unfold Dat.before; rw [if_pos (fetch0_0 t0_0)]; rfl
  subst hx
  ihave HS := (enter sw m c (pistg m c) W) $$ [HΦ HO Hpi]
  · isplitl [HΦ]; · iexact HΦ
    isplitl [HO]; · iexact HO
    iexact Hpi
  icases HS with ⟨%K, HS⟩
  iapply (body_run sw (inp m) K c (pistg m c) (pistg_table sw m h c) W _)
  isplitl [HS]; · iexact HS
  iintro HE
  ihave HE := (leave sw m c (pistg m c)) $$ HE
  icases HE with ⟨HΦ, ⟨%W', HO⟩, Hpi⟩
  isplitl [HΦ]; · iexact HΦ
  isplitl [HO]
  · iexists W'
    isplitr; · ipureintro; exact fun _ _ => Or.inl trivial
    iexact HO
  iexists (pistg m c)
  isplitr; · ipureintro; exact View.read_whole cc0_stg0_0 _
  iexact Hpi

/-! ## The launch theorem's side conditions -/

theorem share_eq (c : Dev nD) (w : Fin cfg0.W) : (dats sw m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ G' sw (inp m) c)
      ⊢ |={Set.univ}=> iprop(start sw m c ∗ emp) := by
  rw [Pipeline.unscopedRestP_none, unscopedRest0_eq]
  iintro ⟨⟨Hx, Ho⟩, Hlev, Hcr, -, HG⟩
  ihave Hc := (creds (F := F) sw c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hx]; · iexact Hx
    iexists _; iexact Ho
  · iempintro

theorem first_intro (c : Dev nD) :
    iprop(start sw m c ∗ Pipeline.prefHeld Pipeline.Prefetch.none c (fun _ => fullShare.right) (fun k => k.elim0) ∗ Pipeline.scopedRest cfg0.spec c)
      ⊢ (dats sw m ρ 0 c).Φ 0 := by
  rw [show (dats sw m ρ 0 c).Φ 0 = Φ₀ sw m c from rfl]
  unfold Φ₀
  iintro ⟨Hs, -, Hr⟩
  isplitl [Hs] <;> iassumption

theorem waits (c : Dev nD) : (levAts L lv : sProp 𝕄) ⊢ Pipeline.cellsWaits cfgs (dats sw m ρ) () 0 c :=
  Pipeline.cellsWaits_intro cfgs (dats sw m ρ) () 0 c fun w s t =>
    mayWait_stage sw c _ (by fin_cases w <;> fin_cases s <;> decide) _ (by
      rcases t with ⟨_ | _, ht⟩
      · exact Or.inl rfl
      · exact Or.inr rfl)

/-! ## The run -/

/-- What a final state holds: the arguments as they were, and each device's row blocks of the result as they are to be. -/
def Ends (s : MemSt nD τ sig (Elt F)) : Prop := ∀ c : Dev nD,
  (s.mem ((c : Thread nD τ).loc main_arg0) = m ((c : Thread nD τ).loc main_arg0))
    ∧ (s.mem ((c : Thread nD τ).loc main_arg1) = m ((c : Thread nD τ).loc main_arg1))
    ∧ ∀ k, (blk oM k).view.read (Elt F) (s.mem ((c : Thread nD τ).loc main_v1)) = res sw (inp m) c k

set_option maxRecDepth 8000 in
/-- At the mesh of sixteen devices, for any float values, from any memory with zero counters whose tables are all the
    exchange or all the identity: every weakly fair execution terminates, the arguments unchanged, each device's result
    at its partner's block quantised and decoded (or at its own block), every semaphore counter at zero. -/
theorem run_main (h : Tabled sw m) :
    θ_run defs (onTc (τ := τ) (main (F := F))) (s₀ m ρ) (fun r => Ends sw m r.2 ∧ r.2.sem = fun _ => 0) :=
  Pipeline.θ_run_region_owing_glob_pf (fun p => (cfgs p).toPCfg) (fun p => (cfgs p).toPCfg_adm) (dats sw m ρ) () cellOf_inj (0 : Fin 1)
    winFacts0.to₀ ownSemFacts (Pipeline.PreFacts.none _) EP defs₀ 𝒱₀ m ρ main
    (hmain := fun _ => rfl)
    (hbody := body_obligation sw m ρ h) (hne := fun w => by fin_cases w <;> exact Nat.succ_pos _) (harr := arr_whole0) (hstage := stage_whole0) (hshare := share_eq sw m ρ)
    (hdistinct := winFacts0.arr_inj)
    (O₀ := O₀ sw) (howed₀ := fun _ => rfl) (howedN := fun _ => rfl)
    (L := L) (lv := lv) (hL := L_of_ne) (hwaits := waits sw m ρ)
    (G := G sw (inp m)) (G' := G' sw (inp m)) (u₀ := u₀)
    (hu₀ := by
      unfold u₀
      iintro Hu
      ihave H := (ownU_pair _ _) $$ Hu
      icases H with ⟨HP, HX⟩
      ihave H2 := (own_pair_emb (embR : Emb (UB × Counters) 𝕄) _ _) $$ HX
      icases H2 with ⟨HX, -⟩
      ihave HX := (show BI.own (((Emb.inl : Emb UB (UB × Counters)).trans (embR : Emb (UB × Counters) 𝕄)) (initOf xCells xToks)) ⊢ (BI.own (ER (initOf xCells xToks)) : sProp 𝕄) from
        BI.Entails.refl _) $$ HX
      imod (fund sw (inp m)) $$ HX with HG
      imodintro
      isplitl [HP] <;> iassumption)
    (hglob := glob sw (inp m))
    (hA := fun _ _ => rfl) (hpf := fun _ k => k.elim0)
    (X := start sw m) (Y := finish sw m) (Z := fun _ => iprop(emp))
    (hX := start_intro sw m ρ) (hin := first_intro sw m ρ) (hout := fun _ => BI.Entails.refl _)
    (QY := fun c s => (s.mem ((c : Thread nD τ).loc main_arg0) = m ((c : Thread nD τ).loc main_arg0)
      ∧ ∀ k, (blk oM k).view.read (Elt F) (s.mem ((c : Thread nD τ).loc main_v1)) = res sw (inp m) c k)
      ∧ ∀ sm : SemLoc sig, sm.isScoped .tc = false → s.sem ((c.tc : Thread nD τ), sm) = 0)
    (hY := fun c s' => by
      unfold finish
      iintro ⟨⟨Hu, Hx, %f, %hf, Ho⟩, -, HSI⟩
      icombine HSI Hx gives %hx
      icombine HSI Ho gives %ho
      have ho' := Buf.eq_of_forall_mem_univ ho
      imod (Pipeline.unscopedSems0_read (X := unscopedSems0 c) (c := c) fupd_intro s') $$ [Hu HSI] with ⟨%hs, HSI⟩
      · isplitl [Hu] <;> iassumption
      imodintro
      isplitr
      · ipureintro
        refine ⟨⟨Buf.eq_of_forall_mem_univ hx, ?_⟩, hs⟩
        rw [ho']; exact hf
      iexact HSI)
    (hQ := fun s h' hs => ⟨fun c => ⟨(h' c).2.2.1.1, ((h' c).1 0).trans ((dats (F := F) sw m ρ 0 c).arrAt_in 0 rfl _), (h' c).2.2.1.2⟩,
      sem_eq_zero hs fun c => (h' c).2.2.2⟩)

end Launch
end Cert.Swap

end
-- ==== Proof.Frames.lean ====
/-
  The frames: of the kernel as printed and idealised, from one run for any float values, and of the reference.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_swapped_Kernel
public import proofs.«01_k».proof.Proof.Gen.Pre_kept_Kernel
public import proofs.«01_k».proof.Proof.Gen.Pre_swapped_ReferenceIdeal
public import proofs.«01_k».proof.Proof.Gen.Pre_kept_ReferenceIdeal

@[expose] public section

noncomputable section

namespace Cert.Frames

open Idealize.ShloMosaic Idealize.ShloMosaic.TcCoe Idealize.SL.Sem
open Cert.KernelIdeal Cert.KernelIdeal.Gen Cert.Swap

variable {F : FTy → Type} [FloatOps F]

/-! ## What the preconditions say of the table -/

theorem eq_of_cmpi {a b : BitVec 32} (h : IntOp.cmpi .eq a b = 1#1) : a = b := by
  unfold IntOp.cmpi at h
  by_contra hne
  simp only [beq_eq_false_iff_ne.2 hne] at h
  exact absurd h (by decide)

theorem swapped_table : ∀ i : S2.Idx, Cert.Pre_swapped_Kernel.lit0 (S2.rowMajor i) = table true i := by decide
theorem kept_table : ∀ i : S2.Idx, Cert.Pre_kept_Kernel.lit0 (S2.rowMajor i) = table false i := by decide

/-- Under `swapped` every device's table is the exchange; -/
theorem tabled_swapped (m : (ℓ : Loc nD τ sig) → Buf (Elt F) ℓ)
    (h : ∀ c : Dev nD, Cert.Pre_swapped_Kernel.fn (F := F) (m ((c : Thread nD τ).loc main_arg0)) (m ((c : Thread nD τ).loc main_arg1)) = fun _ => 1#1) :
    Tabled true m := fun c i => (eq_of_cmpi (congrFun (h c) i)).trans (swapped_table i)
/-- under `kept`, the identity. -/
theorem tabled_kept (m : (ℓ : Loc nD τ sig) → Buf (Elt F) ℓ)
    (h : ∀ c : Dev nD, Cert.Pre_kept_Kernel.fn (F := F) (m ((c : Thread nD τ).loc main_arg0)) (m ((c : Thread nD τ).loc main_arg1)) = fun _ => 1#1) :
    Tabled false m := fun c i => (eq_of_cmpi (congrFun (h c) i)).trans (kept_table i)

/-! ## The claims -/

/-- The printed kernel and the idealised one have the same text: the same body table, -/
theorem defs₀_same : Cert.Kernel.defs₀ (F := F) = defs₀ (F := F) := by
  unfold Cert.Kernel.defs₀ defs₀
  refine congrArg Defs.onTc ?_
  funext l a
  match l, a with
  | 0, (t, s) => rfl
/-- the same labels with their pipelines, -/
theorem defs_same : Cert.Kernel.defs (F := F) = defs (F := F) := by
  unfold Cert.Kernel.defs defs
  rw [defs₀_same]
  rfl
/-- so one run is the run of both. -/
theorem run_kernel (sw : Bool) (m : (ℓ : Loc nD τ sig) → Buf (Elt F) ℓ) (ρ) (h : Tabled sw m) :
    θ_run (Cert.Kernel.defs (F := F)) (onTc (τ := τ) (Cert.Kernel.main (F := F))) (Swap.s₀ m ρ) (fun r => Ends sw m r.2 ∧ r.2.sem = fun _ => 0) := by
  rw [defs_same]
  exact run_main sw m ρ h

theorem frame_kernel : Cert.quiescent_Kernel := fun m ρ h =>
  (θ_run Cert.Kernel.defs _ _).mono (fun _ e => ⟨fun c => ⟨(e.1 c).1, (e.1 c).2.1⟩, e.2⟩) (run_kernel (F := Bits) true m ρ (tabled_swapped (F := Bits) m h))
theorem frame_kernel_kept : Cert.quiescent_Kernel_pre_kept_Kernel := fun m ρ h =>
  (θ_run Cert.Kernel.defs _ _).mono (fun _ e => ⟨fun c => ⟨(e.1 c).1, (e.1 c).2.1⟩, e.2⟩) (run_kernel (F := Bits) false m ρ (tabled_kept (F := Bits) m h))
theorem frame_ideal : Cert.quiescent_KernelIdeal := fun m ρ h =>
  (θ_run Cert.KernelIdeal.defs _ _).mono (fun _ e => ⟨fun c => ⟨(e.1 c).1, (e.1 c).2.1⟩, e.2⟩) (run_main (F := Ideal) true m ρ (tabled_swapped m h))
theorem frame_ideal_kept : Cert.quiescent_KernelIdeal_pre_kept_Kernel := fun m ρ h =>
  (θ_run Cert.KernelIdeal.defs _ _).mono (fun _ e => ⟨fun c => ⟨(e.1 c).1, (e.1 c).2.1⟩, e.2⟩) (run_main (F := Ideal) false m ρ (tabled_kept m h))

/-- The reference declares no semaphore, and no operation of it writes an argument. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Frames

end
-- ==== Proof.Ref.lean ====
/-
  The reference read at an index: which block the sorted order picks, the scale of a group of 128 rows and what the
  wire makes of one element.
-/
module

public import proofs.«01_k».proof.Proof.Body
public import proofs.«01_k».proof.Proof.Gen.ReferenceIdeal
public import proofs.«01_k».proof.Proof.Gen.ReferenceIdeal.Run
public import Idealize.ShloMosaic.Lib.IdealHost
public import Idealize.ShloMosaic.Lib.ValueLayout
public import Idealize.ShloMosaic.Lib.KernelVsHost
public import Idealize.ShloMosaic.Lib.Pipeline.Value
public import Idealize.ShloMosaic.PureOps.Ideal.Laws

@[expose] public section

noncomputable section

namespace Cert.RefValue

open Cert.ReferenceIdeal Cert.ReferenceIdeal.Gen
open Idealize.ShloMosaic Idealize.ShloMosaic.TcCoe Idealize.ShloMosaic.ValueIdx

/-! ## The reference's term by its parts -/

/-- `argsort` of the table, -/
def order (p : IVec S2 32) : IVec S2 32 := (Host.sort2 S2 0 comparator_i32_i32_d0 p (iotaInDim S2 32 0)).2
/-- the input's blocks in that order, -/
def picked (X : FVec Ideal S2x1024x1024 .f32) (p : IVec S2 32) : FVec Ideal S2x1024x1024 .f32 :=
  Host.gather gather_S2x1024x1024_S2x1_S2x1024x1024_12_0_n_n_0_1_110241024 X
    (broadcastInDim S2x1 ![0] bcast_S2_S2x1_0 (select (cmpi .slt (order p) (broadcastInDim S2 ![] bcast_S_S2 (constantI S_ 32 0#32)))
      (addi (order p) (broadcastInDim S2 ![] bcast_S_S2 (constantI S_ 32 2#32))) (order p)))
/-- those blocks in groups of 128 rows, -/
def grouped (g : FVec Ideal S2x1024x1024 .f32) : FVec Ideal S2x8x128x1024 .f32 := shapeCast _ g shapeCasts_S2x1024x1024_S2x8x128x1024
/-- each group's scale, -/
def scales (g : FVec Ideal S2x1024x1024 .f32) : FVec Ideal S2x8x1x1 .f32 :=
  Host.divf (maximumf (broadcastInDim S2x8x1x1 ![0, 1] bcast_S2x8_S2x8x1x1_0_1
      (Host.reduce FloatOps.maximumf (Host.absf (grouped g)) (constant S_ .f32 0xFF800000#32) reducesTo_S2x8x128x1024_S2x8_d2_3 h_S_))
    (broadcastInDim S2x8x1x1 ![] bcast_S_S2x8x1x1 (constant S_ .f32 0x0DA24260#32)))
    (broadcastInDim S2x8x1x1 ![] bcast_S_S2x8x1x1 (constant S_ .f32 0x42FE0000#32))
/-- and the groups as the wire returns them. -/
def wired (g : FVec Ideal S2x1024x1024 .f32) : FVec Ideal S2x8x128x1024 .f32 :=
  mulf (minimumf (broadcastInDim S2x8x128x1024 ![] bcast_S_S2x8x128x1024 (id (constant S_ .f32 0x42FE0000#32)))
    (maximumf (broadcastInDim S2x8x128x1024 ![] bcast_S_S2x8x128x1024 (id (constant S_ .f32 0xC2FE0000#32)))
      (Host.roundeven (Host.divf (grouped g) (broadcastInDim S2x8x128x1024 ![0, 1, 2, 3] bcast_S2x8x1x1_S2x8x128x1024_0_1_2_3 (scales g))))))
    (broadcastInDim S2x8x128x1024 ![0, 1, 2, 3] bcast_S2x8x1x1_S2x8x128x1024_0_1_2_3 (scales g))
/-- The whole of it: a block that moved comes off the wire, one that did not is as it was. -/
def out (X : FVec Ideal S2x1024x1024 .f32) (p : IVec S2 32) : FVec Ideal S2x1024x1024 .f32 :=
  select (broadcastInDim S2x1024x1024 ![0, 1, 2] bcast_S2x1x1_S2x1024x1024_0_1_2 (broadcastInDim S2x1x1 ![0] bcast_S2_S2x1x1_0 (cmpi .ne (order p) (iotaInDim S2 32 0))))
    (shapeCast _ (wired (picked X p)) shapeCasts_S2x8x128x1024_S2x1024x1024) (picked X p)

theorem res_eq (m : (ℓ : Loc nD τ sig) → Buf (Elt Ideal) ℓ) (c : Dev nD) :
    Value.res_main_v26 m c = out (m ((c.tc : Thread nD τ).loc main_arg0)) (m ((c.tc : Thread nD τ).loc main_arg1)) := rfl

/-! ## The order -/

/-- Either table is its own order. -/
theorem order_table (sw : Bool) : order (Swap.table sw) = Swap.table sw := by
  funext i; revert i; cases sw <;> decide

/-- The block the order puts at place `a`. -/
def pick (sw : Bool) (a : Fin 2) : Fin 2 := if sw then a.rev else a

/-- Neither table has a negative entry to wrap. -/
theorem starts_table (sw : Bool) : broadcastInDim S2x1 ![0] bcast_S2_S2x1_0 (select (cmpi .slt (Swap.table sw) (broadcastInDim S2 ![] bcast_S_S2 (constantI S_ 32 0#32)))
      (addi (Swap.table sw) (broadcastInDim S2 ![] bcast_S_S2 (constantI S_ 32 2#32))) (Swap.table sw)) = fun j => BitVec.ofNat 32 (pick sw (j 0)).val := by
  funext j; revert j; cases sw <;> decide
theorem pick_clamped (sw : Bool) (a : Fin 2) : min (BitVec.ofNat 32 (pick sw a).val).toInt.toNat (2 - 1) = (pick sw a).val := by
  revert a; cases sw <;> decide

theorem picked_apply (sw : Bool) (X : FVec Ideal S2x1024x1024 .f32) (a : Fin 2) (r l : Fin 1024) :
    picked X (Swap.table sw) (ix3 a r l) = X (ix3 (pick sw a) r l) := by
  unfold picked Host.gather
  rw [order_table, starts_table]
  congr 1
  funext b
  refine Fin.ext ?_
  show GatherDims.start _ (ix3 a r l) _ b + GatherDims.batchCoord _ (ix3 a r l) b + GatherDims.offCoord _ (ix3 a r l) b = _
  rw [GatherDims.batchCoord_eq_zero _ _ _ List.not_mem_nil, Nat.add_zero]
  match b with
  | ⟨0, _⟩ =>
    rw [show (⟨0, _⟩ : Fin S2x1024x1024.rank) = 0 from rfl, GatherDims.offCoord_eq_zero _ _ _ (by decide), Nat.add_zero]
    unfold GatherDims.start
    rw [dif_pos (show (0 : Fin 3) ∈ gather_S2x1024x1024_S2x1_S2x1024x1024_12_0_n_n_0_1_110241024.startIndexMap from List.mem_singleton.mpr rfl)]
    exact pick_clamped sw a
  | ⟨1, _⟩ => exact Nat.zero_add _
  | ⟨2, _⟩ => exact Nat.zero_add _

/-- A block moved exactly when the table exchanges. -/
theorem moved (sw : Bool) : cmpi .ne (order (Swap.table sw)) (iotaInDim S2 32 0) = fun _ => if sw then 1#1 else 0#1 := by
  rw [order_table]; funext i; revert i; cases sw <;> decide

theorem out_kept (X : FVec Ideal S2x1024x1024 .f32) : out X (Swap.table false) = X := by
  unfold out
  rw [moved]
  funext i
  rw [eq_ix3 i]
  exact picked_apply false X _ _ _

theorem out_swapped (X : FVec Ideal S2x1024x1024 .f32) :
    out X (Swap.table true) = shapeCast _ (wired (picked X (Swap.table true))) shapeCasts_S2x8x128x1024_S2x1024x1024 := by
  unfold out
  rw [moved]
  rfl

end Cert.RefValue

end
-- ==== Proof.Values.lean ====
/-
  The value of the result, over the reals extended by the infinities: what the kernel leaves on a device is that
  device's block of the reference's result, where the blocks are exchanged and where they are kept.
-/
module

public import proofs.«01_k».proof.Proof.Ref
public import proofs.«01_k».proof.Proof.Frames

@[expose] public section

noncomputable section

namespace Cert.Values

open Idealize.ShloMosaic Idealize.ShloMosaic.TcCoe Idealize.ShloMosaic.ValueIdx Idealize.SL.Sem
open Cert.KernelIdeal Cert.KernelIdeal.Gen Cert.Swap Cert.RefValue

/-! ## One element -/

/-- The word of 127 is 127, -/
theorem word_127 : Ideal.ofBits .f32 0x42FE0000#32 = ((127 : ℝ) : EReal) := by
  simp [Ideal.ofBits, Ideal.ieee]
  rw [← EReal.coe_mul]; norm_num
/-- that of −127 is −127, -/
theorem word_neg127 : Ideal.ofBits .f32 0xC2FE0000#32 = ((-127 : ℝ) : EReal) := by
  simp [Ideal.ofBits, Ideal.ieee]
  rw [← EReal.coe_mul]; norm_num
/-- and the smallest scale's word is above zero. -/
theorem word_least : (0 : EReal) < Ideal.ofBits .f32 0x0DA24260#32 := by
  simp [Ideal.ofBits, Ideal.ieee]
  rw [← EReal.coe_mul]; exact_mod_cast (by positivity)

/-- A value rounded to an integer and cut to between −127 and 127, with infinities. -/
def clipped (x : EReal) : EReal :=
  min (Ideal.ofBits .f32 0x42FE0000#32) (max (Ideal.ofBits .f32 0xC2FE0000#32) (Ideal.liftRound Ideal.roundHalfEven x))

/-- Such a value is an integer between −127 and 127, -/
theorem clipped_int (x : EReal) : ∃ n : ℤ, -127 ≤ n ∧ n ≤ 127 ∧ clipped x = ((n : ℝ) : EReal) := by
  unfold clipped
  rw [word_127, word_neg127]
  induction x with
  | bot =>
    refine ⟨-127, le_rfl, by norm_num, ?_⟩
    show min ((127 : ℝ) : EReal) (max ((-127 : ℝ) : EReal) ⊥) = _
    rw [max_eq_left bot_le, min_eq_right (EReal.coe_le_coe_iff.2 (by norm_num))]
    norm_num
  | top =>
    refine ⟨127, by norm_num, le_rfl, ?_⟩
    show min ((127 : ℝ) : EReal) (max ((-127 : ℝ) : EReal) ⊤) = _
    rw [max_eq_right le_top, min_eq_left le_top]
    norm_num
  | coe r =>
    refine ⟨min 127 (max (-127) (Ideal.roundHalfEven r)), by omega, by omega, ?_⟩
    show min ((127 : ℝ) : EReal) (max ((-127 : ℝ) : EReal) (((Ideal.roundHalfEven r : ℤ) : ℝ) : EReal)) = _
    rw [← EReal.coe_strictMono.monotone.map_max, ← EReal.coe_strictMono.monotone.map_min]
    push_cast
    rfl
/-- so an eight-bit code carries it exactly. -/
theorem code_exact (x : EReal) : (((Ideal.fptosi 8 (clipped x)).toInt : ℝ) : EReal) = clipped x := by
  obtain ⟨n, h₁, h₂, h⟩ := clipped_int x
  rw [h, Ideal.fptosi, Ideal.toIntClamped_coe]
  have e : (if (0 : ℝ) ≤ (n : ℝ) then ⌊(n : ℝ)⌋ else ⌈(n : ℝ)⌉) = n := by split <;> simp
  rw [e, max_eq_right (by norm_num; omega), min_eq_right (by norm_num; omega), BitVec.toInt_ofInt, Int.bmod_eq_of_le (by norm_num; omega) (by norm_num; omega)]

/-- Times one over a scale is over the scale, when the scale is not zero. -/
theorem recip_mul {s : EReal} (x : EReal) (h : s ≠ 0) : x * Ideal.div 1 s = Ideal.div x s := by
  rw [Ideal.div, Ideal.div, if_neg h, if_neg h, one_mul]

/-- A scale that is at least the smallest one is above zero. -/
theorem scale_pos (m : EReal) : 0 < Ideal.div (max m (Ideal.ofBits .f32 0x0DA24260#32)) (Ideal.ofBits .f32 0x42FE0000#32) := by
  rw [word_127, Ideal.div, if_neg (by norm_num), ← EReal.coe_inv]
  exact EReal.mul_pos (lt_of_lt_of_le word_least (le_max_right _ _)) (by norm_num)

/-! ## One chunk -/

/-- Row `r` of chunk `k`. -/
def row (k : Fin 8) (r : Fin 128) : Fin 1024 := ⟨128 * k.val + r.val, by omega⟩

/-- Chunk `k` of an argument read at an index; -/
theorem read_arg (k : Fin 8) (f : FVec Ideal S1x1024x1024 .f32) (r : Fin 128) (l : Fin 1024) : tile (F := Ideal) f k (ix2 r l) = f (ix3 0 (row k r) l) := by
  show f ((blkR k).emb (Shape.reshapeEquiv _ (ix2 r l))) = _
  rw [reshapeEquiv_ix2_1ab]
  refine congrArg f (funext fun b => Fin.ext ?_)
  match b with
  | ⟨0, _⟩ => rfl
  | ⟨1, _⟩ => show _ + 1 * _ = _; exact congrArg _ (one_mul _)
  | ⟨2, _⟩ => show 0 + 1 * _ = _; rw [one_mul, Nat.zero_add]
/-- and of a result. -/
theorem read_res (k : Fin 8) (f : FVec Ideal S1x1024x1024 .f32) (r : Fin 128) (l : Fin 1024) :
    (blk oM k).view.read (Elt Ideal) f (ix2 r l) = f (ix3 0 (row k r) l) := read_arg k f r l

/-- The reference's group `k` of block `a` at an index. -/
theorem grouped_apply (g : FVec Ideal Cert.ReferenceIdeal.S2x1024x1024 .f32) (a : Fin 2) (k : Fin 8) (r : Fin 128) (l : Fin 1024) :
    grouped g (ix4 a k r l) = g (ix3 a (row k r) l) := by
  refine shapeCast_apply _ _ _ _ ?_
  rw [Shape.rowMajor_val_three, Shape.rowMajor_val_four]
  show (a.val * 1024 + (128 * k.val + r.val)) * 1024 + l.val = ((a.val * 8 + k.val) * 128 + r.val) * 1024 + l.val
  ring

/-- One-element vectors have one index. -/
theorem idx1 (i : S1.Idx) : i = ix1 0 := (eq_ix1 i).trans (congrArg ix1 (Subsingleton.elim (α := Fin 1) _ _))

/-- The largest absolute value of a chunk is the same by the kernel's reduction and the reference's: both are least upper
    bounds of the same values. -/
theorem largest (g : FVec Ideal Cert.ReferenceIdeal.S2x1024x1024 .f32) (t : FVec Ideal S128x1024 .f32) (a : Fin 2) (k : Fin 8)
    (h : ∀ r l, grouped g (ix4 a k r l) = t (ix2 r l)) :
    Host.reduce FloatOps.maximumf (Host.absf (grouped g)) (constant Cert.ReferenceIdeal.S_ .f32 0xFF800000#32)
        Cert.ReferenceIdeal.Gen.reducesTo_S2x8x128x1024_S2x8_d2_3 Cert.ReferenceIdeal.Gen.h_S_ (ix2 a k)
      = multiReduction .maximumf [1, 2] S1 (shapeCast S1x128x1024 (absf t) shapeCasts_S128x1024_S1x128x1024) 0xFF800000#32 reduces_S1x128x1024_S1 (.inl rfl) rfl (ix1 0) := by
  rw [Host.reduce_eq_fold]
  refine Eq.trans ?_ (multiReduction_maximumf_eq_fold (F := Ideal) (φ := .f32) _ _ _ _ _ _).symm
  refine eq_of_forall_ge_iff fun z => ?_
  refine (Finset.fold_max_le z).trans ((Iff.and Iff.rfl ?_).trans (Finset.fold_max_le z).symm)
  constructor
  · intro H i _
    refine le_trans (le_of_eq ?_) (H (ix4 a k (i 1) (i 2)) ?_)
    · rw [eq_ix3 i]
      exact (shapeCast_ab_1ab_apply (absf t) _ (i 0) (i 1) (i 2)).trans (congrArg (fun y : EReal => max y (-y)) (h (i 1) (i 2)).symm)
    · refine Finset.mem_filter.2 ⟨Finset.mem_univ _, ?_⟩
      funext b
      match b with
      | ⟨0, _⟩ => rfl
      | ⟨1, _⟩ => rfl
  · intro H i hi
    have e := (Finset.mem_filter.1 hi).2
    have e0 : i 0 = a := congrFun e 0
    have e1 : i 1 = k := congrFun e 1
    refine le_trans (le_of_eq ?_) (H (ix3 0 (i 2) (i 3)) (Finset.mem_filter.2 ⟨Finset.mem_univ _, idx1 _⟩))
    refine Eq.trans ?_ (shapeCast_ab_1ab_apply (absf t) _ (0 : Fin 1) (i 2) (i 3)).symm
    refine congrArg (fun y : EReal => max y (-y)) ?_
    rw [← h (i 2) (i 3), ← e0, ← e1]
    exact congrArg _ (eq_ix4 i)

/-- A scale from a largest absolute value. -/
def scaleFrom (x : EReal) : EReal := Ideal.div (max x (Ideal.ofBits .f32 0x0DA24260#32)) (Ideal.ofBits .f32 0x42FE0000#32)

/-- The kernel's scale from a one-element vector of it, -/
theorem scale_kernel (B : FVec Ideal S1 .f32) :
    Scalar.divf (Scalar.maximumf (extractAt ![0, 0, 0] (shapeCast S1x1x1 B shapeCasts_S1_S1x1x1) inpos_S1x1x1_p0_0_0) (Scalar.ofBits .f32 0x0DA24260#32)) (Scalar.ofBits .f32 0x42FE0000#32)
      = scaleFrom (B (ix1 0)) := by
  unfold scaleFrom extractAt shapeCast
  rw [idx1 (Shape.reshapeEquiv _ _)]
  rfl
/-- and the reference's from an array of one for each group. -/
theorem scale_reference (A : FVec Ideal Cert.ReferenceIdeal.S2x8 .f32) (a : Fin 2) (k : Fin 8) :
    Host.divf (maximumf (broadcastInDim Cert.ReferenceIdeal.S2x8x1x1 ![0, 1] Cert.ReferenceIdeal.Gen.bcast_S2x8_S2x8x1x1_0_1 A)
      (broadcastInDim Cert.ReferenceIdeal.S2x8x1x1 ![] Cert.ReferenceIdeal.Gen.bcast_S_S2x8x1x1 (constant Cert.ReferenceIdeal.S_ .f32 0x0DA24260#32)))
      (broadcastInDim Cert.ReferenceIdeal.S2x8x1x1 ![] Cert.ReferenceIdeal.Gen.bcast_S_S2x8x1x1 (constant Cert.ReferenceIdeal.S_ .f32 0x42FE0000#32)) (ix4 a k 0 0)
      = scaleFrom (A (ix2 a k)) := by
  refine (show _ = scaleFrom (broadcastInDim Cert.ReferenceIdeal.S2x8x1x1 ![0, 1] Cert.ReferenceIdeal.Gen.bcast_S2x8_S2x8x1x1_0_1 A (ix4 a k 0 0)) from rfl).trans ?_
  refine congrArg scaleFrom (broadcastInDim_apply _ _ A (ix4 a k 0 0) (ix2 a k) fun b => ?_)
  match b with
  | ⟨0, _⟩ => rfl
  | ⟨1, _⟩ => rfl

/-- The kernel's scale of a chunk, -/
theorem scaleOf_eq (t : FVec Ideal S128x1024 .f32) :
    scaleOf t = scaleFrom (multiReduction .maximumf [1, 2] S1 (shapeCast S1x128x1024 (absf t) shapeCasts_S128x1024_S1x128x1024) 0xFF800000#32 reduces_S1x128x1024_S1 (.inl rfl) rfl (ix1 0)) := by
  unfold scaleOf k0_pay2 k0_pay1
  dsimp only
  rw [shapeCast_shapeCast]
  exact scale_kernel _
/-- which is above zero, -/
theorem scaleOf_pos (t : FVec Ideal S128x1024 .f32) : (0 : EReal) < scaleOf t := by rw [scaleOf_eq]; exact scale_pos _
/-- is the reference's for that group. -/
theorem scales_apply (g : FVec Ideal Cert.ReferenceIdeal.S2x1024x1024 .f32) (t : FVec Ideal S128x1024 .f32) (a : Fin 2) (k : Fin 8)
    (h : ∀ r l, grouped g (ix4 a k r l) = t (ix2 r l)) : scales g (ix4 a k 0 0) = scaleOf t := by
  rw [scaleOf_eq, ← largest g t a k h]
  exact scale_reference _ a k

/-- A chunk's codes decoded, at an index, -/
theorem decode_apply (t : FVec Ideal S128x1024 .f32) (s : EReal) (i : S128x1024.Idx) :
    decode (F := Ideal) (codesAt (F := Ideal) t s) s i = (((Ideal.fptosi 8 (clipped (t i * Ideal.div (Ideal.ofBits .f32 0x3F800000#32) s))).toInt : ℝ) : EReal) * s := rfl
/-- and groups through the reference's wire. -/
theorem wire_apply (G : FVec Ideal Cert.ReferenceIdeal.S2x8x128x1024 .f32) (B : FVec Ideal Cert.ReferenceIdeal.S2x8x1x1 .f32) (a : Fin 2) (k : Fin 8) (r : Fin 128) (l : Fin 1024) :
    mulf (minimumf (broadcastInDim Cert.ReferenceIdeal.S2x8x128x1024 ![] Cert.ReferenceIdeal.Gen.bcast_S_S2x8x128x1024 (id (constant Cert.ReferenceIdeal.S_ .f32 0x42FE0000#32)))
      (maximumf (broadcastInDim Cert.ReferenceIdeal.S2x8x128x1024 ![] Cert.ReferenceIdeal.Gen.bcast_S_S2x8x128x1024 (id (constant Cert.ReferenceIdeal.S_ .f32 0xC2FE0000#32)))
        (Host.roundeven (Host.divf G (broadcastInDim Cert.ReferenceIdeal.S2x8x128x1024 ![0, 1, 2, 3] Cert.ReferenceIdeal.Gen.bcast_S2x8x1x1_S2x8x128x1024_0_1_2_3 B)))))
      (broadcastInDim Cert.ReferenceIdeal.S2x8x128x1024 ![0, 1, 2, 3] Cert.ReferenceIdeal.Gen.bcast_S2x8x1x1_S2x8x128x1024_0_1_2_3 B) (ix4 a k r l)
      = clipped (Ideal.div (G (ix4 a k r l)) (B (ix4 a k 0 0))) * B (ix4 a k 0 0) := by
  rw [← broadcastInDim_apply ![0, 1, 2, 3] Cert.ReferenceIdeal.Gen.bcast_S2x8x1x1_S2x8x128x1024_0_1_2_3 B (ix4 a k r l) (ix4 a k 0 0) fun b => ?_]
  · rfl
  · match b with
    | ⟨0, _⟩ => rfl
    | ⟨1, _⟩ => rfl
    | ⟨2, _⟩ => rfl
    | ⟨3, _⟩ => rfl

/-- What a chunk decodes to is what the reference's wire makes of that group. -/
theorem decoded (g : FVec Ideal Cert.ReferenceIdeal.S2x1024x1024 .f32) (t : FVec Ideal S128x1024 .f32) (a : Fin 2) (k : Fin 8)
    (h : ∀ r l, grouped g (ix4 a k r l) = t (ix2 r l)) (r : Fin 128) (l : Fin 1024) :
    decode (codesOf t) (scaleOf t) (ix2 r l) = wired g (ix4 a k r l) := by
  unfold codesOf wired
  rw [wire_apply, scales_apply g t a k h, h, decode_apply, code_exact, Ideal.ofBits_one_f32, recip_mul _ (scaleOf_pos t).ne']

/-! ## One device -/

/-- The block of the whole arrays that device `c` has. -/
def part (c : Dev nD) : Fin 2 := ⟨c.val / 8, Nat.div_lt_of_lt_mul (show c.val < 8 * 2 from c.isLt)⟩

/-- Its partner has the other one. -/
theorem part_partner (c : Dev nD) : part (partner c) = (part c).rev := by revert c; decide

theorem part_mesh (c : Dev nD) : (Layout.meshBlock [2, 2, 4] ![[0], [], []] c (by decide) 0).val = (part c).val := by revert c; decide

/-- A whole array's block on a device, at an index. -/
theorem block_apply (v : FVec Ideal Cert.ReferenceIdeal.S2x1024x1024 .f32) (c : Dev nD) (R l : Fin 1024) :
    Layout.blockN ⟨3, ![1, 1024, 1024]⟩ ⟨3, ![2, 1024, 1024]⟩ (Layout.meshBlock [2, 2, 4] ![[0], [], []] c) v (by decide) (ix3 0 R l) = v (ix3 (part c) R l) := by
  rw [Layout.blockN_apply]
  refine congrArg v (funext fun b => Fin.ext ?_)
  match b with
  | ⟨0, _⟩ => exact (Nat.mul_one _).trans (part_mesh c)
  | ⟨1, _⟩ => exact (congrArg (· + R.val) (Nat.zero_mul 1024)).trans (Nat.zero_add _)
  | ⟨2, _⟩ => exact (congrArg (· + l.val) (Nat.zero_mul 1024)).trans (Nat.zero_add _)

/-- Groups put back together, at a row. -/
theorem ungrouped_apply (w : FVec Ideal Cert.ReferenceIdeal.S2x8x128x1024 .f32) (a : Fin 2) (k : Fin 8) (r : Fin 128) (l : Fin 1024) :
    shapeCast Cert.ReferenceIdeal.S2x1024x1024 w Cert.ReferenceIdeal.Gen.shapeCasts_S2x8x128x1024_S2x1024x1024 (ix3 a (row k r) l) = w (ix4 a k r l) := by
  refine shapeCast_apply _ _ _ _ ?_
  rw [Shape.rowMajor_val_three, Shape.rowMajor_val_four]
  show ((a.val * 8 + k.val) * 128 + r.val) * 1024 + l.val = (a.val * 1024 + (128 * k.val + r.val)) * 1024 + l.val
  ring

/-- Every row is one of some chunk. -/
theorem row_split (R : Fin 1024) : ∃ k r, R = row k r :=
  ⟨⟨R.val / 128, by omega⟩, ⟨R.val % 128, by omega⟩, Fin.ext (Nat.div_add_mod _ _).symm⟩

/-- The devices' arguments are the blocks of one array. -/
def Parts (X : FVec Ideal Cert.ReferenceIdeal.S2x1024x1024 .f32) (x : XT Ideal) : Prop := ∀ c (R l : Fin 1024), x c (ix3 0 R l) = X (ix3 (part c) R l)

/-- What a device's chunk is to be, at an index, is the reference's result there. -/
theorem res_apply (sw : Bool) (X : FVec Ideal Cert.ReferenceIdeal.S2x1024x1024 .f32) (x : XT Ideal) (hx : Parts X x) (c : Dev nD) (k : Fin 8)
    (r : Fin 128) (l : Fin 1024) : res sw x c k (ix2 r l) = out X (table sw) (ix3 (part c) (row k r) l) := by
  cases sw with
  | false =>
    rw [out_kept]
    exact (read_arg k (x c) r l).trans (hx c _ l)
  | true =>
    rw [out_swapped, ungrouped_apply]
    refine decoded (picked X (table true)) (tile (x (partner c)) k) (part c) k (fun r l => ?_) r l
    rw [grouped_apply, picked_apply, read_arg, hx, part_partner]
    rfl

/-- A result whose chunks are what they are to be is the device's block of the reference's result. -/
theorem result_block (sw : Bool) (X : FVec Ideal Cert.ReferenceIdeal.S2x1024x1024 .f32) (x : XT Ideal) (hx : Parts X x) (c : Dev nD)
    (f : FVec Ideal S1x1024x1024 .f32) (hf : ∀ k, (blk oM k).view.read (Elt Ideal) f = res sw x c k) :
    f = Layout.blockN ⟨3, ![1, 1024, 1024]⟩ ⟨3, ![2, 1024, 1024]⟩ (Layout.meshBlock [2, 2, 4] ![[0], [], []] c) (out X (table sw)) (by decide) := by
  funext i
  obtain ⟨k, r, e⟩ := row_split (i 1)
  rw [eq_ix3 i, e, Subsingleton.elim (α := Fin 1) (i 0) 0]
  exact (read_res k f r (i 2)).symm.trans ((congrFun (hf k) _).trans ((res_apply sw X x hx c k r (i 2)).trans (block_apply _ c _ _).symm))

/-! ## The claims -/

/-- From arguments that are the blocks of the reference's and tables that are its table, both programs run, and the
    kernel's results are the blocks of the reference's. -/
theorem agree (sw : Bool) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (ht : Tabled sw m)
    (h : ∀ c : Dev nD, m ((c : Thread nD τ).loc main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c : Thread nD τ).loc main_arg1) = m' (((0 : Dev Cert.ReferenceIdeal.nD).tc : Thread Cert.ReferenceIdeal.nD Cert.ReferenceIdeal.τ).loc Cert.ReferenceIdeal.main_arg1)) :
    ∃ v0 : Buf (Elt Ideal) (((0 : Dev Cert.ReferenceIdeal.nD).tc : Thread Cert.ReferenceIdeal.nD Cert.ReferenceIdeal.τ).loc Cert.ReferenceIdeal.main_v26),
      θ_run (defs (F := Ideal)) (onTc (τ := τ) (main (F := Ideal))) ⟨m, fun _ => 0, g⟩ (fun r => ∀ c : Dev nD,
          r.2.mem ((c : Thread nD τ).loc main_v1) = Layout.blockN ⟨3, ![1, 1024, 1024]⟩ ⟨3, ![2, 1024, 1024]⟩ (Layout.meshBlock [2, 2, 4] ![[0], [], []] c) v0
          ∧ r.2.mem ((c : Thread nD τ).loc main_arg0) = m ((c : Thread nD τ).loc main_arg0)
          ∧ r.2.mem ((c : Thread nD τ).loc main_arg1) = m ((c : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hp : m' (((0 : Dev Cert.ReferenceIdeal.nD).tc : Thread Cert.ReferenceIdeal.nD Cert.ReferenceIdeal.τ).loc Cert.ReferenceIdeal.main_arg1) = table sw :=
    (h (⟨0, by decide⟩ : Dev nD)).2.symm.trans (funext fun i => ht _ i)
  refine ⟨Cert.ReferenceIdeal.Value.res_main_v26 m' 0, ?_, ?_⟩
  · refine (θ_run defs _ _).mono (fun r e c => ⟨?_, (e.1 c).1, (e.1 c).2.1⟩) (run_main (F := Ideal) sw m g ht)
    rw [res_eq, hp]
    exact result_block sw _ (inp m) (fun c R l => (congrFun (h c).1 _).trans (block_apply _ c R l)) c _ (e.1 c).2.2
  · exact (θ_run Cert.ReferenceIdeal.defs _ _).mono (fun r e => e 0) (Cert.ReferenceIdeal.Value.run (F := Ideal) m' g')

/-- Where the blocks are exchanged, -/
theorem algebraic_swapped : Cert.algebraic_KernelIdeal_ReferenceIdeal := fun m g m' g' hp h => agree true m g m' g' (Cert.Frames.tabled_swapped m hp) h
/-- and where they are kept. -/
theorem algebraic_kept : Cert.algebraic_KernelIdeal_ReferenceIdeal_pre_kept_Kernel := fun m g m' g' hp h => agree false m g m' g' (Cert.Frames.tabled_kept m hp) h

end Cert.Values

end
-- ==== Proof.lean ====
/-
  The certificate: the frames, and that the results agree under either permutation.
-/
module

public import proofs.«01_k».proof.Defs
public import proofs.«01_k».proof.Proof.Frames
public import proofs.«01_k».proof.Proof.Values

@[expose] public section

noncomputable section

namespace Cert.Proof

open Idealize.ShloMosaic Idealize.SL.Sem

/-- Everything claimed: the kernel runs and leaves its arguments and its semaphores as they were when the two blocks are
    exchanged and when they are kept, so does the reference, and over the extended reals each device's result is its
    block of the reference's in both cases. -/
theorem claim : Cert.Claim :=
  ⟨Cert.Kernel.Gen.facts, Cert.KernelIdeal.Gen.facts, Cert.ReferenceIdeal.Gen.facts, Cert.Pre_swapped_Kernel.Gen.facts, Cert.Pre_kept_Kernel.Gen.facts,
    Cert.Pre_swapped_ReferenceIdeal.Gen.facts, Cert.Pre_kept_ReferenceIdeal.Gen.facts,
    Cert.Frames.frame_kernel, Cert.Frames.frame_kernel_kept, Cert.Frames.frame_ideal, Cert.Frames.frame_ideal_kept, Cert.Frames.frame_reference,
    fun m ρ _ => Cert.Frames.frame_reference m ρ trivial, fun m ρ _ => Cert.Frames.frame_reference m ρ trivial, trivial,
    Cert.Values.algebraic_swapped, Cert.Values.algebraic_kept⟩

end Cert.Proof

end
